-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S2x4096x512 : Shape := ⟨3, ![2, 4096, 512]⟩
abbrev S15x256x512 : Shape := ⟨3, ![15, 256, 512]⟩
abbrev S2 : Shape := ⟨1, ![2]⟩
abbrev S15 : Shape := ⟨1, ![15]⟩
abbrev S_ : Shape := ⟨0, ![]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .fp8e4m3⟩
  | .local _ .vmem, ⟨1, _⟩ => ⟨S4096x512, .f32⟩
  | .local _ .vmem, ⟨2, _⟩ => ⟨S256x4096, .bf16⟩
  | .local _ .vmem, ⟨3, _⟩ => ⟨S2x4096x512, .fp8e4m3⟩
  | .local _ .vmem, ⟨4, _⟩ => ⟨S15x256x512, .bf16⟩
  | .local _ .vmem, ⟨5, _⟩ => ⟨S15x256x512, .bf16⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_66 : BitVec 32) : Fin 2 → Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v73 : BitVec 32 := Scalar.addi v2 c0_i32_66
  let c16_i32_67 : BitVec 32 := 16#32
  let v74 : BitVec 32 := Scalar.remsi v73 c16_i32_67
  let c512_i32 : BitVec 32 := 512#32
  let v75 : BitVec 32 := Scalar.muli v74 c512_i32
  ![0, v75.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v106 : BitVec 32 := Scalar.muli v2 c256_i32
  let v107 : Index := Scalar.indexCast v106
  let c0_95 : Index := 0#32
  ![v107.toNat, 0]
def k0_dev16 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v138 : BitVec 32 := Scalar.addi v2 c1_i32_121
  let c16_i32_122 : BitVec 32 := 16#32
  let v139 : BitVec 32 := Scalar.remsi v138 c16_i32_122
  let c1_i32_127 : BitVec 32 := 1#32
  let v140 : BitVec 32 := Scalar.muli v139 c1_i32_127
  let v141 : BitVec 32 := Scalar.addi c0_i32_128 v140
  v141.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_159 : BitVec 32 := 2#32
  let v179 : BitVec 32 := Scalar.addi v2 c2_i32_159
  let c16_i32_160 : BitVec 32 := 16#32
  let v180 : BitVec 32 := Scalar.remsi v179 c16_i32_160
  let c1_i32_165 : BitVec 32 := 1#32
  let v181 : BitVec 32 := Scalar.muli v180 c1_i32_165
  let v182 : BitVec 32 := Scalar.addi c0_i32_166 v181
  v182.toNat
def k0_dev18 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_196 : BitVec 32 := 3#32
  let v220 : BitVec 32 := Scalar.addi v2 c3_i32_196
  let c16_i32_197 : BitVec 32 := 16#32
  let v221 : BitVec 32 := Scalar.remsi v220 c16_i32_197
  let c1_i32_202 : BitVec 32 := 1#32
  let v222 : BitVec 32 := Scalar.muli v221 c1_i32_202
  let v223 : BitVec 32 := Scalar.addi c0_i32_203 v222
  v223.toNat
def k0_dev19 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_233 : BitVec 32 := 4#32
  let v261 : BitVec 32 := Scalar.addi v2 c4_i32_233
  let c16_i32_234 : BitVec 32 := 16#32
  let v262 : BitVec 32 := Scalar.remsi v261 c16_i32_234
  let c1_i32_239 : BitVec 32 := 1#32
  let v263 : BitVec 32 := Scalar.muli v262 c1_i32_239
  let v264 : BitVec 32 := Scalar.addi c0_i32_240 v263
  v264.toNat
def k0_dev20 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_270 : BitVec 32 := 5#32
  let v302 : BitVec 32 := Scalar.addi v2 c5_i32_270
  let c16_i32_271 : BitVec 32 := 16#32
  let v303 : BitVec 32 := Scalar.remsi v302 c16_i32_271
  let c1_i32_276 : BitVec 32 := 1#32
  let v304 : BitVec 32 := Scalar.muli v303 c1_i32_276
  let v305 : BitVec 32 := Scalar.addi c0_i32_277 v304
  v305.toNat
def k0_dev21 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_307 : BitVec 32 := 6#32
  let v343 : BitVec 32 := Scalar.addi v2 c6_i32_307
  let c16_i32_308 : BitVec 32 := 16#32
  let v344 : BitVec 32 := Scalar.remsi v343 c16_i32_308
  let c1_i32_313 : BitVec 32 := 1#32
  let v345 : BitVec 32 := Scalar.muli v344 c1_i32_313
  let v346 : BitVec 32 := Scalar.addi c0_i32_314 v345
  v346.toNat
def k0_dev22 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_344 : BitVec 32 := 7#32
  let v384 : BitVec 32 := Scalar.addi v2 c7_i32_344
  let c16_i32_345 : BitVec 32 := 16#32
  let v385 : BitVec 32 := Scalar.remsi v384 c16_i32_345
  let c1_i32_350 : BitVec 32 := 1#32
  let v386 : BitVec 32 := Scalar.muli v385 c1_i32_350
  let v387 : BitVec 32 := Scalar.addi c0_i32_351 v386
  v387.toNat
def k0_dev23 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_381 : BitVec 32 := 8#32
  let v425 : BitVec 32 := Scalar.addi v2 c8_i32_381
  let c16_i32_382 : BitVec 32 := 16#32
  let v426 : BitVec 32 := Scalar.remsi v425 c16_i32_382
  let c1_i32_387 : BitVec 32 := 1#32
  let v427 : BitVec 32 := Scalar.muli v426 c1_i32_387
  let v428 : BitVec 32 := Scalar.addi c0_i32_388 v427
  v428.toNat
def k0_dev24 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_418 : BitVec 32 := 9#32
  let v466 : BitVec 32 := Scalar.addi v2 c9_i32_418
  let c16_i32_419 : BitVec 32 := 16#32
  let v467 : BitVec 32 := Scalar.remsi v466 c16_i32_419
  let c1_i32_424 : BitVec 32 := 1#32
  let v468 : BitVec 32 := Scalar.muli v467 c1_i32_424
  let v469 : BitVec 32 := Scalar.addi c0_i32_425 v468
  v469.toNat
def k0_dev25 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_455 : BitVec 32 := 10#32
  let v507 : BitVec 32 := Scalar.addi v2 c10_i32_455
  let c16_i32_456 : BitVec 32 := 16#32
  let v508 : BitVec 32 := Scalar.remsi v507 c16_i32_456
  let c1_i32_461 : BitVec 32 := 1#32
  let v509 : BitVec 32 := Scalar.muli v508 c1_i32_461
  let v510 : BitVec 32 := Scalar.addi c0_i32_462 v509
  v510.toNat
def k0_dev26 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_492 : BitVec 32 := 11#32
  let v548 : BitVec 32 := Scalar.addi v2 c11_i32_492
  let c16_i32_493 : BitVec 32 := 16#32
  let v549 : BitVec 32 := Scalar.remsi v548 c16_i32_493
  let c1_i32_498 : BitVec 32 := 1#32
  let v550 : BitVec 32 := Scalar.muli v549 c1_i32_498
  let v551 : BitVec 32 := Scalar.addi c0_i32_499 v550
  v551.toNat
def k0_dev27 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_529 : BitVec 32 := 12#32
  let v589 : BitVec 32 := Scalar.addi v2 c12_i32_529
  let c16_i32_530 : BitVec 32 := 16#32
  let v590 : BitVec 32 := Scalar.remsi v589 c16_i32_530
  let c1_i32_535 : BitVec 32 := 1#32
  let v591 : BitVec 32 := Scalar.muli v590 c1_i32_535
  let v592 : BitVec 32 := Scalar.addi c0_i32_536 v591
  v592.toNat
def k0_dev28 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_566 : BitVec 32 := 13#32
  let v630 : BitVec 32 := Scalar.addi v2 c13_i32_566
  let c16_i32_567 : BitVec 32 := 16#32
  let v631 : BitVec 32 := Scalar.remsi v630 c16_i32_567
  let c1_i32_572 : BitVec 32 := 1#32
  let v632 : BitVec 32 := Scalar.muli v631 c1_i32_572
  let v633 : BitVec 32 := Scalar.addi c0_i32_573 v632
  v633.toNat
def k0_dev29 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_603 : BitVec 32 := 14#32
  let v671 : BitVec 32 := Scalar.addi v2 c14_i32_603
  let c16_i32_604 : BitVec 32 := 16#32
  let v672 : BitVec 32 := Scalar.remsi v671 c16_i32_604
  let c1_i32_609 : BitVec 32 := 1#32
  let v673 : BitVec 32 := Scalar.muli v672 c1_i32_609
  let v674 : BitVec 32 := Scalar.addi c0_i32_610 v673
  v674.toNat
def k0_dev30 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_632 : BitVec 32 := 15#32
  let v704 : BitVec 32 := Scalar.addi v2 c15_i32_632
  let c16_i32_633 : BitVec 32 := 16#32
  let v705 : BitVec 32 := Scalar.remsi v704 c16_i32_633
  let c1_i32_638 : BitVec 32 := 1#32
  let v706 : BitVec 32 := Scalar.muli v705 c1_i32_638
  let v707 : BitVec 32 := Scalar.addi c0_i32_639 v706
  v707.toNat
def k0_off3 (d0 : Dev nD) (c1_i32_644 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v716 : BitVec 32 := Scalar.subi v2 c1_i32_644
  let c16_i32_645 : BitVec 32 := 16#32
  let v717 : BitVec 32 := Scalar.addi v716 c16_i32_645
  let c16_i32_646 : BitVec 32 := 16#32
  let v718 : BitVec 32 := Scalar.remsi v717 c16_i32_646
  let c256_i32_662 : BitVec 32 := 256#32
  let v732 : BitVec 32 := Scalar.muli v718 c256_i32_662
  let v733 : Index := Scalar.indexCast v732
  let c0_663 : Index := 0#32
  ![v733.toNat, 0]
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Body.lean ====
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL Idealize.SL.Sem
open Idealize.ShloMosaic.TcCoe

variable {F : FTy → Type} [FloatOps F]

abbrev P' (α : Type) : Type 1 := Prog (TpuEff nD τ sig (Elt F) Λ₀ .tc) α

abbrev xM : Memref sig .tc .vmem S256x4096 .fp8e4m3 := Memref.whole cc0_stg0_0
abbrev wM : Memref sig .tc .hbm S4096x8192 .fp8e4m3 := Memref.whole main_arg1
abbrev sxM : Memref sig .tc .smem S1 .f32 := Memref.whole cc0_stg1_0
abbrev swM : Memref sig .tc .smem S1 .f32 := Memref.whole cc0_stg2_0
abbrev oM : Memref sig .tc .vmem S4096x512 .f32 := Memref.whole cc0_stg3_0
abbrev xbM : Memref sig .tc .vmem S256x4096 .bf16 := Memref.whole cc0_scratch0
abbrev wbM : Memref sig .tc .vmem S2x4096x512 .fp8e4m3 := Memref.whole cc0_scratch1
abbrev sbM : Memref sig .tc .vmem S15x256x512 .bf16 := Memref.whole cc0_scratch2
abbrev rbM : Memref sig .tc .vmem S15x256x512 .bf16 := Memref.whole cc0_scratch3

theorem inbSlot (k : Fin 15) : ∀ a, (![k.val, 0, 0] : Fin 3 → Nat) a + S1x256x512.size a ≤ S15x256x512.size a := by revert k; decide
theorem packedSlot (k : Fin 15) : (Rect.unit (s := S15x256x512) ![k.val, 0, 0] S1x256x512.size (inbSlot k)).PackedRows (EltTy.packing .bf16) := by revert k; decide
theorem wordsSlot (k : Fin 15) : (Rect.unit (s := S15x256x512) ![k.val, 0, 0] S1x256x512.size (inbSlot k)).WholeWords (EltTy.packing .bf16) := by revert k; decide
theorem inbSem (k : Fin 15) : ∀ a, (![k.val] : Fin 1 → Nat) a + S1.size a ≤ S15.size a := by revert k; decide
theorem inbW (b : Fin 2) : ∀ a, (![b.val, 0, 0] : Fin 3 → Nat) a + S1x4096x512.size a ≤ S2x4096x512.size a := by revert b; decide
theorem wordsW (b : Fin 2) : (Rect.unit (s := S2x4096x512) ![b.val, 0, 0] S1x4096x512.size (inbW b)).WholeWords (EltTy.packing .fp8e4m3) := by revert b; decide
theorem inbCSem (b : Fin 2) : ∀ a, (![b.val] : Fin 1 → Nat) a + S1.size a ≤ S2.size a := by revert b; decide

abbrev rSlot (k : Fin 15) : Rect S15x256x512 := Rect.unit (s := S15x256x512) ![k.val, 0, 0] S1x256x512.size (inbSlot k)
abbrev rW (b : Fin 2) : Rect S2x4096x512 := Rect.unit (s := S2x4096x512) ![b.val, 0, 0] S1x4096x512.size (inbW b)
abbrev rCol (c : Dev nD) (d : Fin 16) : Rect S4096x8192 := Rect.unit (s := S4096x8192) (k0_off1 c (BitVec.ofNat 32 d.val)) S4096x512.size (k0_off1_inb c d)
abbrev rMy (c : Dev nD) : Rect S4096x512 := Rect.unit (s := S4096x512) (k0_off2 c) S256x512.size (k0_off2_inb c)
abbrev rRow (c : Dev nD) (k : Fin 15) : Rect S4096x512 := Rect.unit (s := S4096x512) (k0_off3 c (BitVec.ofNat 32 (1 + k.val))) S256x512.size (k0_off3_inb c k)
abbrev rX : Rect S256x4096 := Rect.unit (s := S256x4096) ![0, 0] S256x4096.size inb_S256x4096_S256x4096_0_0

abbrev sSlot (k : Fin 15) : Memref sig .tc .vmem S256x512 .bf16 := (sbM.slice (rSlot k) (fun _ => rfl)).squeeze S256x512 squeezes_S1x256x512_S256x512
abbrev rcSlot (k : Fin 15) : Memref sig .tc .vmem S256x512 .bf16 := (rbM.slice (rSlot k) (fun _ => rfl)).squeeze S256x512 squeezes_S1x256x512_S256x512
abbrev wSlot (b : Fin 2) : Memref sig .tc .vmem S4096x512 .fp8e4m3 := (wbM.slice (rW b) (fun _ => rfl)).squeeze S4096x512 squeezes_S1x4096x512_S4096x512
abbrev wCol (c : Dev nD) (d : Fin 16) : Memref sig .tc .hbm S4096x512 .fp8e4m3 := wM.slice (rCol c d) (fun _ => rfl)

abbrev copyS (b : Fin 2) : DmaSem sig := ((cc0_scratch4.slice (Rect.unit (s := S2) ![b.val] S1.size (inbCSem b))).squeeze S_ squeezes_S1_S_).sem
abbrev sendS (k : Fin 15) : DmaSem sig := ((cc0_scratch5.slice (Rect.unit (s := S15) ![k.val] S1.size (inbSem k))).squeeze S_ squeezes_S1_S_).sem
abbrev recvS (k : Fin 15) : DmaSem sig := ((cc0_scratch6.slice (Rect.unit (s := S15) ![k.val] S1.size (inbSem k))).squeeze S_ squeezes_S1_S_).sem
abbrev barS : Sem sig := (SemArray.scalar (sig.barrier 0 rfl) : Sems sig S_).sem

/-- The device the barrier's signal number `k` names. -/
def barDev (k : Fin 15) (c : Dev nD) : Dev nD := match k with
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩ | 7 => ⟨k0_dev8 c, k0_dev8_lt c⟩
  | 8 => ⟨k0_dev9 c, k0_dev9_lt c⟩ | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩

/-- The device copy number `k` goes to. -/
def sendDev (k : Fin 15) (c : Dev nD) : Dev nD := match k with
  | 0 => ⟨k0_dev16 c, k0_dev16_lt c⟩ | 1 => ⟨k0_dev17 c, k0_dev17_lt c⟩ | 2 => ⟨k0_dev18 c, k0_dev18_lt c⟩ | 3 => ⟨k0_dev19 c, k0_dev19_lt c⟩
  | 4 => ⟨k0_dev20 c, k0_dev20_lt c⟩ | 5 => ⟨k0_dev21 c, k0_dev21_lt c⟩ | 6 => ⟨k0_dev22 c, k0_dev22_lt c⟩ | 7 => ⟨k0_dev23 c, k0_dev23_lt c⟩
  | 8 => ⟨k0_dev24 c, k0_dev24_lt c⟩ | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

/-- One signal of the barrier. -/
def sigP (k : Fin 15) (c : Dev nD) : P' (F := F) PUnit := semSignalWord (barDev k c) barS 1#32

/-- The wait for the barrier, the scales loaded, the left operand cast. -/
def headP : P' (F := F) (F .f32) := do
  semWaitWord barS 15#32
  let v64 : Elt F .f32 ← smemLoad sxM (Rect.unit (s := S1) ![0] S1.size inb_S1_S1_0) numel1_S1 rfl
  let v65 : Elt F .f32 ← smemLoad swM (Rect.unit (s := S1) ![0] S1.size inb_S1_S1_0) numel1_S1 rfl
  let v67 : Vec F S256x4096 .fp8e4m3 ← Prog.lift (.load xM rX.toLoadRect (View.loadsAt_vmem h_S256x4096))
  let v70 : Vec F S256x4096 .bf16 ← Prog.lift (.load xbM rX.toLoadRect (View.loadsAt_vmem h_S256x4096))
  Prog.lift (.store xbM rX (k0_pay2 v67) Finset.univ (View.stores_vmem h_S256x4096 ((Memref.isWhole_whole cc0_scratch0).storeExact_slice rfl _ packedbf16_S256x4096_S256x4096_0_0) (fun _ => rfl)) (.inl rfl))
  pure (k0_pay1 v64 v65)

/-- The copy of column block `d` into weight slot `b`. -/
def copyP (c : Dev nD) (d : Fin 16) (b : Fin 2) : P' (F := F) PUnit :=
  Prog.lift (.enqueueDma (wCol c d) (.here (wSlot b)) (.dma (copyS b)) ((Memref.isWhole_whole main_arg1).wordExact_slice rfl _ (k0_off1_wordsfp8e4m3 c d)) (((Memref.isWhole_whole cc0_scratch1).wordExact_slice rfl _ (wordsW b)).reshape _ _) ⟨Or.inl rfl, trivial⟩)

/-- The wait for it. -/
def copyWaitP (c : Dev nD) (d : Fin 16) (b : Fin 2) : P' (F := F) PUnit :=
  Prog.lift (.waitDma2 (copyS b) (wCol c d) (wSlot b) ((Memref.isWhole_whole main_arg1).wordExact_slice rfl _ (k0_off1_wordsfp8e4m3 c d)) (((Memref.isWhole_whole cc0_scratch1).wordExact_slice rfl _ (wordsW b)).reshape _ _))

/-- The device's own block: computed and stored into the result. -/
def ownP (c : Dev nD) (v66 : F .f32) : P' (F := F) PUnit := do
  copyWaitP c 0 0
  let v97 : Vec F S1x4096x512 .fp8e4m3 ← Prog.lift (.load wbM (rW 0).toLoadRect (View.loadsAt_vmem h_S1x4096x512))
  let v100 : Vec F S256x4096 .bf16 ← Prog.lift (.load xbM rX.toLoadRect (View.loadsAt_vmem h_S256x4096))
  let v108 : Vec F S256x512 .f32 ← Prog.lift (.load oM (rMy c).toLoadRect (View.loadsAt_vmem h_S256x512))
  Prog.lift (.store oM (rMy c) (k0_pay4 (k0_pay3 v66 v97 v100)) Finset.univ (View.stores_vmem_bits_univ h_S256x512 rfl) (.inl rfl))

/-- A block for another device: computed, stored into its send slot, its copy started. -/
def sendP (c : Dev nD) (v66 : F .f32) (k : Fin 15) (d : Fin 16) (b : Fin 2) : P' (F := F) PUnit := do
  copyWaitP c d b
  let v125 : Vec F S1x4096x512 .fp8e4m3 ← Prog.lift (.load wbM (rW b).toLoadRect (View.loadsAt_vmem h_S1x4096x512))
  let v128 : Vec F S256x4096 .bf16 ← Prog.lift (.load xbM rX.toLoadRect (View.loadsAt_vmem h_S256x4096))
  let v135 : Vec F S1x256x512 .bf16 ← Prog.lift (.load sbM (rSlot k).toLoadRect (View.loadsAt_vmem h_S1x256x512))
  Prog.lift (.store sbM (rSlot k) (k0_pay7 v66 v125 v128) Finset.univ (View.stores_vmem h_S1x256x512 ((Memref.isWhole_whole cc0_scratch2).storeExact_slice rfl _ (packedSlot k)) (fun _ => rfl)) (.inl rfl))
  Prog.lift (.enqueueDma (sSlot k) (.remote (Dev.tc (sendDev k c)) (rcSlot k) (.dma (sendS k))) (.dma (recvS k)) (((Memref.isWhole_whole cc0_scratch2).wordExact_slice rfl _ (wordsSlot k)).reshape _ _) (((Memref.isWhole_whole cc0_scratch3).wordExact_slice rfl _ (wordsSlot k)).reshape _ _) ⟨⟨rfl, Or.inl rfl⟩, trivial⟩)

/-- A block received: waited for, stored into the result. -/
def recvP (c : Dev nD) (k : Fin 15) : P' (F := F) PUnit := do
  Prog.lift (.waitDma2 (recvS k) (sSlot k) (rcSlot k) (((Memref.isWhole_whole cc0_scratch2).wordExact_slice rfl _ (wordsSlot k)).reshape _ _) (((Memref.isWhole_whole cc0_scratch3).wordExact_slice rfl _ (wordsSlot k)).reshape _ _))
  let v729 : Vec F S1x256x512 .bf16 ← Prog.lift (.load rbM (rSlot k).toLoadRect (View.loadsAt_vmem h_S1x256x512))
  let v734 : Vec F S256x512 .f32 ← Prog.lift (.load oM (rRow c k).toLoadRect (View.loadsAt_vmem h_S256x512))
  Prog.lift (.store oM (rRow c k) (k0_pay27 v729) Finset.univ (View.stores_vmem_bits_univ h_S256x512 rfl) (.inl rfl))

/-- The wait for a send. -/
def sendWaitP (k : Fin 15) : P' (F := F) PUnit :=
  Prog.lift (.waitDma2 (sendS k) (rcSlot k) (sSlot k) (((Memref.isWhole_whole cc0_scratch3).wordExact_slice rfl _ (wordsSlot k)).reshape _ _) (((Memref.isWhole_whole cc0_scratch2).wordExact_slice rfl _ (wordsSlot k)).reshape _ _))

def tailP (c : Dev nD) (v66 : F .f32) : P' (F := F) PUnit := do
  copyP c 0 0
  copyP c 1 1
  ownP c v66
  copyP c 2 0
  sendP c v66 0 1 1
  copyP c 3 1
  sendP c v66 1 2 0
  copyP c 4 0
  sendP c v66 2 3 1
  copyP c 5 1
  sendP c v66 3 4 0
  copyP c 6 0
  sendP c v66 4 5 1
  copyP c 7 1
  sendP c v66 5 6 0
  copyP c 8 0
  sendP c v66 6 7 1
  copyP c 9 1
  sendP c v66 7 8 0
  copyP c 10 0
  sendP c v66 8 9 1
  copyP c 11 1
  sendP c v66 9 10 0
  copyP c 12 0
  sendP c v66 10 11 1
  copyP c 13 1
  sendP c v66 11 12 0
  copyP c 14 0
  sendP c v66 12 13 1
  copyP c 15 1
  sendP c v66 13 14 0
  sendP c v66 14 15 1
  recvP c 0
  recvP c 1
  recvP c 2
  recvP c 3
  recvP c 4
  recvP c 5
  recvP c 6
  recvP c 7
  recvP c 8
  recvP c 9
  recvP c 10
  recvP c 11
  recvP c 12
  recvP c 13
  recvP c 14
  sendWaitP 0
  sendWaitP 1
  sendWaitP 2
  sendWaitP 3
  sendWaitP 4
  sendWaitP 5
  sendWaitP 6
  sendWaitP 7
  sendWaitP 8
  sendWaitP 9
  sendWaitP 10
  sendWaitP 11
  sendWaitP 12
  sendWaitP 13
  sendWaitP 14

def bodyP : P' (F := F) PUnit := do
  let c : Dev nD ← Prog.lift .deviceId
  sigP 0 c
  sigP 1 c
  sigP 2 c
  sigP 3 c
  sigP 4 c
  sigP 5 c
  sigP 6 c
  sigP 7 c
  sigP 8 c
  sigP 9 c
  sigP 10 c
  sigP 11 c
  sigP 12 c
  sigP 13 c
  sigP 14 c
  let v66 ← headP
  tailP c v66

set_option maxRecDepth 65536 in
set_option maxHeartbeats 4000000 in
theorem body_eq : cc0_body_skel (F := F) xM (Memref.isWhole_whole _) wM (Memref.isWhole_whole _) sxM (Memref.isWhole_whole _) swM (Memref.isWhole_whole _) oM (Memref.isWhole_whole _)
    xbM (Memref.isWhole_whole _) wbM (Memref.isWhole_whole _) sbM (Memref.isWhole_whole _) rbM (Memref.isWhole_whole _) cc0_scratch4 cc0_scratch5 cc0_scratch6 = bodyP := by
  rfl

end Cert.KernelIdealProof

end
-- ==== Proof.Contents.lean ====
module

public import proofs.«01_k».proof.Proof.Body
public import Idealize.ShloMosaic.Lib.ValueLayout

@[expose] public section

noncomputable section

/-! What every buffer of a device holds: the column blocks of the weights, the blocks sent and received, the result. -/

namespace Cert.KernelIdealProof

open Cert.KernelIdeal Cert.KernelIdeal.Gen
open Idealize.ShloMosaic Idealize.ShloMosaic.ValueIdx Idealize.SL Idealize.SL.Sem
open Idealize.ShloMosaic.TcCoe

variable {F : FTy → Type} [FloatOps F]

/-! ## The partners -/

/-- The device that device `c` addresses at step `k`. -/
def peer (c : Dev nD) (k : Fin 15) : Dev nD := ⟨(c.val + (k.val + 1)) % 16, Nat.mod_lt _ (by decide)⟩
/-- The device that addresses device `c` at step `k`. -/
def src (c : Dev nD) (k : Fin 15) : Dev nD := ⟨((c.val + 15) - k.val) % 16, Nat.mod_lt _ (by decide)⟩
/-- The column block copied at step `d`. -/
def col (c : Dev nD) (d : Fin 16) : Dev nD := ⟨(c.val + d.val) % 16, Nat.mod_lt _ (by decide)⟩

theorem src_peer : ∀ (c : Dev nD) (k : Fin 15), src (peer c k) k = c := by decide +kernel
theorem peer_src : ∀ (c : Dev nD) (k : Fin 15), peer (src c k) k = c := by decide +kernel
theorem peer_rev : ∀ (c : Dev nD) (k : Fin 15), peer (peer c k) (Fin.rev k) = c := by decide +kernel
theorem peer_ne : ∀ (c : Dev nD) (k : Fin 15), peer c k ≠ c := by decide +kernel
theorem col_zero : ∀ (c : Dev nD), col c 0 = c := by decide +kernel
theorem col_succ : ∀ (c : Dev nD) (k : Fin 15), col c k.succ = peer c k := by decide +kernel
theorem peer_inj : ∀ (c : Dev nD) (k k' : Fin 15), peer c k = peer c k' → k = k' := by decide +kernel
theorem src_inj : ∀ (c : Dev nD) (k k' : Fin 15), src c k = src c k' → k = k' := by decide +kernel
theorem src_ne : ∀ (c : Dev nD) (k : Fin 15), src c k ≠ c := by decide +kernel
theorem src_cover : ∀ (c s : Dev nD), s = c ∨ ∃ k : Fin 15, s = src c k := by decide +kernel
theorem barDev_eq : ∀ (k : Fin 15) (c : Dev nD), barDev k c = peer c k := by decide +kernel
theorem sendDev_eq : ∀ (k : Fin 15) (c : Dev nD), sendDev k c = peer c k := by decide +kernel

/-! ## The arrays -/

/-- The arguments, device by device. -/
structure Args (F : FTy → Type) where
  x : Dev nD → S256x4096.Idx → Elt F .fp8e4m3
  w : Dev nD → S4096x8192.Idx → Elt F .fp8e4m3
  sx : Dev nD → S1.Idx → Elt F .f32
  sw : Dev nD → S1.Idx → Elt F .f32

variable (A : Args F)

theorem wcol_lt (t : Dev nD) (j : Fin 512) : 512 * t.val + j.val < 8192 := by
  have h1 : t.val < 16 := t.isLt
  have := j.isLt
  omega

/-- The column block `t` of device `s`'s weights. -/
def wcol (s t : Dev nD) : Vec F S1x4096x512 .fp8e4m3 := fun j =>
  A.w s (ix2 (j 1) ⟨512 * t.val + (j 2).val, wcol_lt t (j 2)⟩)
/-- The product of the scales. -/
def scl (s : Dev nD) : F .f32 := k0_pay1 (A.sx s (ix1 0)) (A.sw s (ix1 0))
/-- The left operand, cast. -/
def xcast (s : Dev nD) : Vec F S256x4096 .bf16 := k0_pay2 (A.x s)
/-- The block that device `s` makes for device `t`. -/
def blk (s t : Dev nD) : FVec F S1x256x512 .bf16 := k0_pay7 (scl A s) (wcol A s t) (xcast A s)
/-- The block that device `c` keeps. -/
def own (c : Dev nD) : FVec F S256x512 .f32 := k0_pay4 (k0_pay3 (scl A c) (wcol A c c) (xcast A c))

/-- The send buffer once filled. -/
def sbuf (c : Dev nD) : S15x256x512.Idx → Elt F .bf16 := fun i => blk A c (peer c (i 0)) (ix3 0 (i 1) (i 2))
/-- The receive buffer once all blocks have arrived. -/
def rbuf (c : Dev nD) : S15x256x512.Idx → Elt F .bf16 := fun i => blk A (src c (i 0)) c (ix3 0 (i 1) (i 2))

/-- The device whose rows row `r` of the result belongs to. -/
def rowDev (r : Fin 4096) : Dev nD := ⟨r.val / 256, by have := r.isLt; show r.val / 256 < 16; omega⟩
/-- The row within them. -/
def rowIn (r : Fin 4096) : Fin 256 := ⟨r.val % 256, Nat.mod_lt _ (by decide)⟩

/-- The result. -/
def outc (c : Dev nD) : S4096x512.Idx → Elt F .f32 := fun i =>
  if rowDev (i 0) = c then own A c (ix2 (rowIn (i 0)) (i 1)) else k0_pay27 (blk A (rowDev (i 0)) c) (ix2 (rowIn (i 0)) (i 1))

/-! ## The slots' elements -/

theorem mem_rSlot (k : Fin 15) (i : S15x256x512.Idx) : i ∈ (rSlot k).set ↔ i 0 = k := by
  rw [Rect.mem_set_unit]
  constructor
  · intro h
    have h0 := h 0
    have e1 : (![k.val, 0, 0] : Fin 3 → Nat) 0 = k.val := rfl
    have e2 : S1x256x512.size 0 = 1 := rfl
    rw [e1, e2] at h0
    exact Fin.ext (by show (i 0).val = k.val; omega)
  · intro h a
    match a with
    | ⟨0, _⟩ =>
      have : (i 0).val = k.val := congrArg Fin.val h
      show k.val ≤ (i 0).val ∧ (i 0).val < k.val + 1
      omega
    | ⟨1, _⟩ => exact ⟨Nat.zero_le _, lt_of_lt_of_le (i 1).isLt (le_of_eq (Nat.zero_add _).symm)⟩
    | ⟨2, _⟩ => exact ⟨Nat.zero_le _, lt_of_lt_of_le (i 2).isLt (le_of_eq (Nat.zero_add _).symm)⟩

theorem mem_rW (b : Fin 2) (i : S2x4096x512.Idx) : i ∈ (rW b).set ↔ i 0 = b := by
  rw [Rect.mem_set_unit]
  constructor
  · intro h
    have h0 := h 0
    have e1 : (![b.val, 0, 0] : Fin 3 → Nat) 0 = b.val := rfl
    have e2 : S1x4096x512.size 0 = 1 := rfl
    rw [e1, e2] at h0
    exact Fin.ext (by show (i 0).val = b.val; omega)
  · intro h a
    match a with
    | ⟨0, _⟩ =>
      have : (i 0).val = b.val := congrArg Fin.val h
      show b.val ≤ (i 0).val ∧ (i 0).val < b.val + 1
      omega
    | ⟨1, _⟩ => exact ⟨Nat.zero_le _, lt_of_lt_of_le (i 1).isLt (le_of_eq (Nat.zero_add _).symm)⟩
    | ⟨2, _⟩ => exact ⟨Nat.zero_le _, lt_of_lt_of_le (i 2).isLt (le_of_eq (Nat.zero_add _).symm)⟩

theorem set_sSlot (k : Fin 15) : (sSlot k).view.set = (rSlot k).set :=
  (View.set_reshape _ _).trans (View.set_slice_whole _ _)
theorem set_rcSlot (k : Fin 15) : (rcSlot k).view.set = (rSlot k).set :=
  (View.set_reshape _ _).trans (View.set_slice_whole _ _)
theorem set_wSlot (b : Fin 2) : (wSlot b).view.set = (rW b).set :=
  (View.set_reshape _ _).trans (View.set_slice_whole _ _)
theorem set_sAcc (k : Fin 15) : (sbM.access (rSlot k)).set = (rSlot k).set := View.set_slice_whole _ _
theorem set_rAcc (k : Fin 15) : (rbM.access (rSlot k)).set = (rSlot k).set := View.set_slice_whole _ _
theorem set_wAcc (b : Fin 2) : (wbM.access (rW b)).set = (rW b).set := View.set_slice_whole _ _

theorem emb_rSlot (k : Fin 15) (u : Fin 1) (x : Fin 256) (y : Fin 512) : (rSlot k).emb (ix3 u x y) = ix3 k x y := by
  funext a
  apply Fin.ext
  match a with
  | ⟨0, _⟩ => show k.val + 1 * u.val = k.val; have := u.isLt; omega
  | ⟨1, _⟩ => show 0 + 1 * x.val = x.val; omega
  | ⟨2, _⟩ => show 0 + 1 * y.val = y.val; omega

theorem emb_rcSlot (k : Fin 15) (x : Fin 256) (y : Fin 512) : (rcSlot k).view.emb (ix2 x y) = ix3 k x y := by
  refine Eq.trans ?_ (emb_rSlot k ⟨0, Nat.one_pos⟩ x y)
  show (rSlot k).emb (Shape.reshapeEquiv _ (ix2 x y)) = _
  exact congrArg _ (reshapeEquiv_ix2_1ab _ x y)
theorem emb_sSlot (k : Fin 15) (x : Fin 256) (y : Fin 512) : (sSlot k).view.emb (ix2 x y) = ix3 k x y := by
  refine Eq.trans ?_ (emb_rSlot k ⟨0, Nat.one_pos⟩ x y)
  show (rSlot k).emb (Shape.reshapeEquiv _ (ix2 x y)) = _
  exact congrArg _ (reshapeEquiv_ix2_1ab _ x y)

/-- A send slot's contents once the block is stored. -/
theorem store_sSlot (c : Dev nD) (k : Fin 15) (f : S15x256x512.Idx → Elt F .bf16) (i : S15x256x512.Idx) (hi : i ∈ (rSlot k).set) :
    (sbM.access (rSlot k)).write (Elt F) f (blk A c (peer c k)) Finset.univ i = sbuf A c i := by
  have hk : i 0 = k := (mem_rSlot k i).mp hi
  subst hk
  have e : i = (sbM.access (rSlot (i 0))).emb (ix3 (0 : Fin 1) (i 1) (i 2)) :=
    (eq_ix3 i).trans (emb_rSlot (i 0) 0 (i 1) (i 2)).symm
  refine (congrArg _ e).trans ?_
  rw [View.write_emb_of_mem _ _ (Finset.mem_univ _)]
  rfl

/-- What lands in a receive slot. -/
theorem land_rcSlot (s : Dev nD) (k : Fin 15) (f : S15x256x512.Idx → Elt F .bf16) (i : S15x256x512.Idx) (hi : i ∈ (rcSlot k).view.set) :
    (rcSlot k).view.write (Elt F) f ((sSlot k).view.read (Elt F) (sbuf A s)) Finset.univ i = rbuf A (peer s k) i := by
  have hk : i 0 = k := (mem_rSlot k i).mp (set_rcSlot k ▸ hi)
  subst hk
  have e : i = (rcSlot (i 0)).view.emb (ix2 (i 1 : Fin 256) (i 2 : Fin 512)) :=
    (eq_ix3 i).trans (emb_rcSlot (i 0) (i 1) (i 2)).symm
  refine (congrArg _ e).trans ?_
  rw [View.write_emb_of_mem _ _ (Finset.mem_univ _)]
  refine (congrArg (sbuf A s) (emb_sSlot (i 0) (i 1) (i 2))).trans ?_
  show blk A s (peer s (i 0)) (ix3 0 (i 1) (i 2)) = blk A (src (peer s (i 0)) (i 0)) (peer s (i 0)) (ix3 0 (i 1) (i 2))
  exact congrArg (fun s' => blk A s' (peer s (i 0)) (ix3 0 (i 1) (i 2))) (src_peer s (i 0)).symm

/-- What a load of a receive slot reads. -/
theorem load_rcSlot (c : Dev nD) (k : Fin 15) :
    rbM.view.readAt (Elt F) (rSlot k).toLoadRect (rbuf A c) = blk A (src c k) c := by
  funext j
  refine (congrArg (fun j' => rbuf A c ((rSlot k).emb j')) (eq_ix3 j)).trans ((congrArg (rbuf A c) (emb_rSlot k (j 0) (j 1) (j 2))).trans ?_)
  show blk A (src c k) c (ix3 0 (j 1) (j 2)) = _
  exact congrArg (blk A (src c k) c) ((congrArg (fun u : Fin 1 => ix3 u (j 1 : Fin 256) (j 2 : Fin 512)) (Subsingleton.elim (0 : Fin 1) (j 0 : Fin 1))).trans (eq_ix3 j).symm)

theorem numel_wSlot : S4096x512.numel = S1x4096x512.numel := (squeezes_S1x4096x512_S4096x512).numel_eq

/-- What a load of a weight slot reads, once a column block has been copied into it. -/
theorem load_wSlot (c : Dev nD) (d : Fin 16) (b : Fin 2) (f : S2x4096x512.Idx → Elt F .fp8e4m3) :
    wbM.view.readAt (Elt F) (rW b).toLoadRect ((wSlot b).view.write (Elt F) f ((wCol c d).view.read (Elt F) (A.w c)) Finset.univ) = wcol A c (col c d) := by
  funext j
  have hj : Shape.reshapeEquiv (s := S1x4096x512) (s' := S4096x512) numel_wSlot (ix2 (j 1 : Fin 4096) (j 2 : Fin 512)) = j :=
    (reshapeEquiv_ix2_1ab _ _ _).trans ((congrArg (fun u : Fin 1 => ix3 u (j 1 : Fin 4096) (j 2 : Fin 512)) (Subsingleton.elim (α := Fin 1) _ (j 0))).trans (eq_ix3 j).symm)
  show (wSlot b).view.write (Elt F) f ((wCol c d).view.read (Elt F) (A.w c)) Finset.univ ((rW b).emb j) = _
  have e : (rW b).emb j = (wSlot b).view.emb (ix2 (j 1 : Fin 4096) (j 2 : Fin 512)) := congrArg (rW b).emb hj.symm
  rw [e, View.write_emb_of_mem _ _ (Finset.mem_univ _)]
  show A.w c ((rCol c d).emb (ix2 (j 1) (j 2))) = A.w c _
  congr 1
  funext a
  apply Fin.ext
  have hoff := k0_off1_eq c d
  match a with
  | ⟨0, _⟩ =>
    show k0_off1 c (BitVec.ofNat 32 d.val) 0 + 1 * (j 1).val = (j 1).val
    rw [hoff]; show 0 + 1 * (j 1).val = (j 1).val; omega
  | ⟨1, _⟩ =>
    show k0_off1 c (BitVec.ofNat 32 d.val) 1 + 1 * (j 2).val = 512 * ((c.val + d.val) % 16) + (j 2).val
    rw [hoff]; show 512 * ((c.val + d.val) % 16) + 1 * (j 2).val = _; omega

/-! ## The result's rows -/

theorem mem_rows {off : Fin 2 → Nat} {inb : ∀ a, off a + S256x512.size a ≤ S4096x512.size a} (s : Dev nD) (h : off = ![256 * s.val, 0]) (i : S4096x512.Idx) :
    i ∈ (Rect.unit (s := S4096x512) off S256x512.size inb).set ↔ rowDev (i 0) = s := by
  subst h
  rw [Rect.mem_set_unit]
  constructor
  · intro h
    have h0 : 256 * s.val ≤ (i 0).val ∧ (i 0).val < 256 * s.val + 256 := h 0
    exact Fin.ext (by show (i 0).val / 256 = s.val; omega)
  · intro h a
    match a with
    | ⟨0, _⟩ =>
      have : (i 0).val / 256 = s.val := congrArg Fin.val h
      show 256 * s.val ≤ (i 0).val ∧ (i 0).val < 256 * s.val + 256
      omega
    | ⟨1, _⟩ => exact ⟨Nat.zero_le _, lt_of_lt_of_le (i 1).isLt (le_of_eq (Nat.zero_add _).symm)⟩

/-- A store of a device's rows: the rows are the stored block, the others are as before. -/
theorem store_rows {off : Fin 2 → Nat} {inb : ∀ a, off a + S256x512.size a ≤ S4096x512.size a} (s : Dev nD) (h : off = ![256 * s.val, 0])
    (f : S4096x512.Idx → Elt F .f32) (v : Vec F S256x512 .f32) (i : S4096x512.Idx) :
    (oM.access (Rect.unit (s := S4096x512) off S256x512.size inb)).write (Elt F) f v Finset.univ i
      = if rowDev (i 0) = s then v (ix2 (rowIn (i 0)) (i 1)) else f i := by
  by_cases hi : rowDev (i 0) = s
  · rw [if_pos hi]
    have e : i = (oM.access (Rect.unit (s := S4096x512) off S256x512.size inb)).emb (ix2 (rowIn (i 0)) (i 1)) := by
      funext a
      apply Fin.ext
      have hv : (i 0).val / 256 = s.val := congrArg Fin.val hi
      match a with
      | ⟨0, _⟩ =>
        show (i 0).val = off 0 + 1 * ((i 0).val % 256)
        rw [h]; show (i 0).val = 256 * s.val + 1 * ((i 0).val % 256); omega
      | ⟨1, _⟩ =>
        show (i 1).val = off 1 + 1 * (i 1).val
        rw [h]; show (i 1).val = 0 + 1 * (i 1).val; omega
    refine (congrArg _ e).trans ?_
    rw [View.write_emb_of_mem _ _ (Finset.mem_univ _)]
    rfl
  · rw [if_neg hi, View.write_of_not_mem]
    intro hm
    exact hi ((mem_rows s h i).mp ((Finset.ext_iff.mp (View.set_slice_whole _ _) i).mp hm))

/-- The rows of the result that hold their value before step `n` of the last loop. -/
def outDone (c : Dev nD) (n : Nat) (i : S4096x512.Idx) : Prop := rowDev (i 0) = c ∨ ∃ k : Fin 15, k.val < n ∧ rowDev (i 0) = src c k

theorem outDone_all (c : Dev nD) (i : S4096x512.Idx) : outDone c 15 i :=
  (src_cover c (rowDev (i 0))).imp id (fun ⟨k, h⟩ => ⟨k, k.isLt, h⟩)

theorem store_own (c : Dev nD) (f : S4096x512.Idx → Elt F .f32) (i : S4096x512.Idx) (hi : outDone c 0 i) :
    (oM.access (rMy c)).write (Elt F) f (own A c) Finset.univ i = outc A c i := by
  have h : rowDev (i 0) = c := hi.elim id (fun ⟨k, hk, _⟩ => absurd hk (Nat.not_lt_zero _))
  rw [store_rows c (k0_off2_eq c), if_pos h]
  unfold outc
  rw [if_pos h]

theorem store_recv (c : Dev nD) (k : Fin 15) (f : S4096x512.Idx → Elt F .f32) (hf : ∀ i, outDone c k.val i → f i = outc A c i)
    (i : S4096x512.Idx) (hi : outDone c (k.val + 1) i) :
    (oM.access (rRow c k)).write (Elt F) f (k0_pay27 (blk A (src c k) c)) Finset.univ i = outc A c i := by
  rw [store_rows (src c k) (k0_off3_eq c k)]
  by_cases h : rowDev (i 0) = src c k
  · rw [if_pos h]
    unfold outc
    rw [if_neg (h ▸ src_ne c k), h]
  · rw [if_neg h]
    refine hf i (hi.imp id ?_)
    rintro ⟨k', hk', h'⟩
    refine ⟨k', ?_, h'⟩
    rcases Nat.lt_succ_iff_lt_or_eq.mp hk' with hlt | heq
    · exact hlt
    · exact absurd (h'.trans (congrArg (src c) (Fin.ext heq))) h

end Cert.KernelIdealProof

end
-- ==== Proof.Protocol.lean ====
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 100000

noncomputable section

/-! The protocol of the kernel: for each semaphore who pays it, what it hands over, and what every device owes. -/

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds of the barrier and of the blocks sent between devices. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The cells -/

/-- A device's semaphores of the protocol: the barrier, the send semaphores, the receive semaphores. -/
abbrev CI : Type := Unit ⊕ (Fin 15 ⊕ Fin 15)

def csem : CI → SemLoc sig
  | .inl _ => .reg barS
  | .inr (.inl k) => .dma (sendS k)
  | .inr (.inr k) => .dma (recvS k)

/-- Which of them a semaphore is. -/
def decode : SemLoc sig → Option CI
  | .reg s => if s = barS then some (.inl ()) else none
  | .dma q => if q.val < 6 then none
      else if q.val < 21 then some (.inr (.inl ⟨(q.val - 6) % 15, Nat.mod_lt _ (by decide)⟩))
      else some (.inr (.inr ⟨(q.val - 21) % 15, Nat.mod_lt _ (by decide)⟩))

theorem decode_csem : ∀ i : CI, decode (csem i) = some i := by decide +kernel
theorem csem_inj : Function.Injective csem := fun i j h => by
  have := (decode_csem i).symm.trans ((congrArg decode h).trans (decode_csem j))
  exact Option.some.inj this

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))
abbrev copyCell (c : Dev nD) (b : Fin 2) : GSem nD τ sig := ((c : Thread nD τ), .dma (copyS b))
abbrev kcell (ck : Dev nD × CI) : GSem nD τ sig := ((ck.1 : Thread nD τ), csem ck.2)

theorem decode_bar : decode (.reg barS) = some (.inl ()) := decode_csem (.inl ())
theorem decode_send (k : Fin 15) : decode (.dma (sendS k)) = some (.inr (.inl k)) := decode_csem (.inr (.inl k))
theorem decode_recv (k : Fin 15) : decode (.dma (recvS k)) = some (.inr (.inr k)) := decode_csem (.inr (.inr k))
theorem decode_copy : ∀ b : Fin 2, decode (.dma (copyS b)) = none := by decide +kernel
theorem decode_stage : ∀ q : DmaSem sig, q.val < 6 → decode (.dma q) = none := fun q h => if_pos h

/-- The credit of one block. -/
abbrev N : ℕ := (rcSlot 0).view.dmaCredit
theorem N_pos : 0 < N := View.dmaCredit_pos _ (by decide)
/-- The credit of one column block. -/
abbrev NW : ℕ := (wSlot 0).view.dmaCredit
theorem NW_pos : 0 < NW := View.dmaCredit_pos _ (by decide)

/-! ## The buffers -/

variable (A : Args F)

abbrev rLoc (c : Dev nD) : Loc nD τ sig := (c : Thread nD τ).loc cc0_scratch3
abbrev sLoc (c : Dev nD) : Loc nD τ sig := (c : Thread nD τ).loc cc0_scratch2
abbrev wbLoc (c : Dev nD) : Loc nD τ sig := (c : Thread nD τ).loc cc0_scratch1
abbrev xbLoc (c : Dev nD) : Loc nD τ sig := (c : Thread nD τ).loc cc0_scratch0
abbrev wLoc (c : Dev nD) : Loc nD τ sig := (c : Thread nD τ).loc main_arg1
abbrev oLoc (c : Dev nD) : Loc nD τ sig := (c : Thread nD τ).loc cc0_stg3_0

/-- A receive slot. -/
def rPts (c : Dev nD) (k : Fin 15) (f : Buf (Elt F) (rLoc c)) : sProp 𝕄 := rLoc c ↦[(rSlot k).set]{fullShare} f
/-- A send slot. -/
def sPts (c : Dev nD) (k : Fin 15) (f : Buf (Elt F) (sLoc c)) : sProp 𝕄 := sLoc c ↦[(rSlot k).set]{fullShare} f
/-- A weight slot. -/
def wbPts (c : Dev nD) (b : Fin 2) (f : Buf (Elt F) (wbLoc c)) : sProp 𝕄 := wbLoc c ↦[(rW b).set]{fullShare} f

instance rPts_storable (c : Dev nD) (k) (f) : BI.Storable (upEmb : UEmb _ 𝕄) (rPts (F := F) c k f) := by unfold rPts; infer_instance
instance sPts_storable (c : Dev nD) (k) (f) : BI.Storable (upEmb : UEmb _ 𝕄) (sPts (F := F) c k f) := by unfold sPts; infer_instance

/-! ## The schedule -/

/-- What duty `j` of device `c`'s barrier cell hands over: the slot that device `c` fills at step `j`. -/
def barPay (c : Dev nD) (j : Fin 15) : sProp 𝕄 := iprop(∃ f, rPts (peer c j) j f)
def sendPay (c : Dev nD) (k : Fin 15) : sProp 𝕄 := sPts c k (sbuf A c)
def recvPay (c : Dev nD) (k : Fin 15) : sProp 𝕄 := rPts c k (rbuf A c)

def dutiesOf : Option CI → Finset (Fin 15)
  | some (.inl _) => Finset.univ
  | some (.inr _) => {0}
  | none => ∅
def amountOf' : Option CI → ℕ
  | some (.inl _) => 1
  | _ => N
def payOf (c : Dev nD) (j : Fin 15) : Option CI → sProp 𝕄
  | some (.inl _) => barPay c j
  | some (.inr (.inl k)) => sendPay A c k
  | some (.inr (.inr k)) => recvPay A c k
  | none => iprop(emp)

/-- One round: a barrier cell has fifteen duties of one unit, a send or receive cell one duty of a block's credit. -/
def sched : Rounds.Schedule (GSem nD τ sig) (Fin 15) 𝕄 where
  duties g r := if r = 0 ∧ g.1.2 = .tc then dutiesOf (decode g.2) else ∅
  unitless _ := False
  amount g _ _ := amountOf' (decode g.2)
  payload g _ d := payOf A g.1.1 d (decode g.2)
  amount_pos g _ _ _ := by
    rcases decode g.2 with _ | (_ | _)
    · exact N_pos
    · exact Nat.one_pos
    · exact N_pos

instance sched_payload_storable (g : GSem nD τ sig) (r : ℕ) (d : Fin 15) :
    BI.Storable (upEmb : UEmb _ 𝕄) ((sched (F := F) A).payload g r d) := by
  show BI.Storable upEmb (payOf A g.1.1 d (decode g.2))
  rcases decode g.2 with _ | (_ | (_ | _))
  · unfold payOf; infer_instance
  · unfold payOf barPay; infer_instance
  · unfold payOf sendPay; infer_instance
  · unfold payOf recvPay; infer_instance

theorem duties_bar (c : Dev nD) : (sched A).duties (barCell c) 0 = Finset.univ := by
  dsimp only [sched]; rw [if_pos ⟨rfl, rfl⟩, decode_bar]; rfl
theorem duties_send (c : Dev nD) (k : Fin 15) : (sched A).duties (sendCell c k) 0 = {0} := by
  dsimp only [sched]; rw [if_pos ⟨rfl, rfl⟩, decode_send]; rfl
theorem duties_recv (c : Dev nD) (k : Fin 15) : (sched A).duties (recvCell c k) 0 = {0} := by
  dsimp only [sched]; rw [if_pos ⟨rfl, rfl⟩, decode_recv]; rfl
theorem duties_later (g : GSem nD τ sig) : ∀ r, 1 ≤ r → (sched A).duties g r = ∅ :=
  fun r hr => by dsimp only [sched]; rw [if_neg fun h => by omega]

theorem amount_bar (c : Dev nD) (d : Fin 15) : (sched A).amount (barCell c) 0 d = 1 := by
  dsimp only [sched]; rw [decode_bar]; rfl
theorem amount_send (c : Dev nD) (k d : Fin 15) : (sched A).amount (sendCell c k) 0 d = N := by
  dsimp only [sched]; rw [decode_send]; rfl
theorem amount_recv (c : Dev nD) (k d : Fin 15) : (sched A).amount (recvCell c k) 0 d = N := by
  dsimp only [sched]; rw [decode_recv]; rfl

theorem expect_bar (c : Dev nD) : (sched A).expect (barCell c) 0 = 15 := by
  unfold Schedule.expect Schedule.amountOf
  rw [duties_bar, Finset.sum_congr rfl fun d _ => amount_bar A c d, Finset.sum_const, Finset.card_univ, Fintype.card_fin, smul_eq_mul]
theorem expect_send (c : Dev nD) (k : Fin 15) : (sched A).expect (sendCell c k) 0 = N := by
  unfold Schedule.expect Schedule.amountOf; rw [duties_send, Finset.sum_singleton, amount_send]
theorem expect_recv (c : Dev nD) (k : Fin 15) : (sched A).expect (recvCell c k) 0 = N := by
  unfold Schedule.expect Schedule.amountOf; rw [duties_recv, Finset.sum_singleton, amount_recv]

theorem payload_bar (c : Dev nD) (d : Fin 15) : (sched A).payload (barCell c) 0 d = barPay c d := by
  dsimp only [sched]; rw [decode_bar]; rfl
theorem payload_send (c : Dev nD) (k d : Fin 15) : (sched A).payload (sendCell c k) 0 d = sendPay A c k := by
  dsimp only [sched]; rw [decode_send]; rfl
theorem payload_recv (c : Dev nD) (k d : Fin 15) : (sched A).payload (recvCell c k) 0 d = recvPay A c k := by
  dsimp only [sched]; rw [decode_recv]; rfl

theorem rest_bar (c : Dev nD) : bigSep ((sched A).duties (barCell c) 0 \ ∅) (fun d => (sched A).payload (barCell c) 0 d) = bigSep Finset.univ (fun d => barPay (F := F) c d) := by
  rw [Finset.sdiff_empty, duties_bar]
  exact bigSep_congr fun d _ => payload_bar A c d
theorem rest_send (c : Dev nD) (k : Fin 15) : bigSep ((sched A).duties (sendCell c k) 0 \ ∅) (fun d => (sched A).payload (sendCell c k) 0 d) = sendPay A c k := by
  rw [Finset.sdiff_empty, duties_send, bigSep_singleton, payload_send]
theorem rest_recv (c : Dev nD) (k : Fin 15) : bigSep ((sched A).duties (recvCell c k) 0 \ ∅) (fun d => (sched A).payload (recvCell c k) 0 d) = recvPay A c k := by
  rw [Finset.sdiff_empty, duties_recv, bigSep_singleton, payload_recv]

/-! ## What a device owes -/

/-- The steps from `n` on. -/
def from' (n : Nat) : Finset (Fin 15) := Finset.univ.filter (fun k => n ≤ k.val)
theorem from_succ (k : Fin 15) : from' k.val = insert k (from' (k.val + 1)) := by
  ext j
  simp only [from', Finset.mem_filter, Finset.mem_univ, true_and, Finset.mem_insert, Fin.ext_iff]
  omega
theorem not_mem_from (k : Fin 15) : k ∉ from' (k.val + 1) := by
  simp only [from', Finset.mem_filter, Finset.mem_univ, true_and]; omega
theorem from_end : from' 15 = ∅ := by
  ext j; have := j.isLt
  simp only [from', Finset.mem_filter, Finset.mem_univ, true_and, Finset.notMem_empty, iff_false]; omega
theorem from_zero : from' 0 = Finset.univ := by
  ext j; simp [from']

/-- The credits of the blocks still to be sent. -/
def recvSum (c : Dev nD) (n : Nat) : CellTallies nD τ sig Unit := ∑ k ∈ from' n, tallyAt (recvCell (peer c k) k) () N
/-- The barrier's signals still to be given. -/
def barSum (c : Dev nD) (n : Nat) : CellTallies nD τ sig Unit := ∑ k ∈ from' n, tallyAt (barCell (peer c k)) () 1
def O₀ (c : Dev nD) : CellTallies nD τ sig Unit := recvSum c 0 + barSum c 0

theorem recvSum_peel (c : Dev nD) (k : Fin 15) : recvSum c k.val = recvSum c (k.val + 1) + tallyAt (recvCell (peer c k) k) () N := by
  unfold recvSum; rw [from_succ k, Finset.sum_insert (not_mem_from k), add_comm]
theorem barSum_peel (c : Dev nD) (k : Fin 15) : barSum c k.val = barSum c (k.val + 1) + tallyAt (barCell (peer c k)) () 1 := by
  unfold barSum; rw [from_succ k, Finset.sum_insert (not_mem_from k), add_comm]
theorem recvSum_end (c : Dev nD) : recvSum c 15 = 0 := by unfold recvSum; rw [from_end, Finset.sum_empty]
theorem barSum_end (c : Dev nD) : barSum c 15 = 0 := by unfold barSum; rw [from_end, Finset.sum_empty]

theorem sum_pos {ι : Type} [DecidableEq ι] (s : Finset ι) (f : ι → CellTallies nD τ sig Unit) {g : GSem nD τ sig} {u : Unit} (h : 0 < (∑ k ∈ s, f k) g u) :
    ∃ k ∈ s, 0 < f k g u := by
  classical
  induction s using Finset.induction_on with
  | empty => exact absurd h (Nat.lt_irrefl 0)
  | insert a s ha ih =>
    rw [Finset.sum_insert ha, Pi.add_apply, Finsupp.add_apply] at h
    rcases Nat.eq_zero_or_pos (f a g u) with h0 | h0
    · rw [h0, Nat.zero_add] at h
      obtain ⟨k, hk, hp⟩ := ih h
      exact ⟨k, Finset.mem_insert_of_mem hk, hp⟩
    · exact ⟨a, Finset.mem_insert_self _ _, h0⟩

theorem tally_pos {g g' : GSem nD τ sig} {u u' : Unit} {n : ℕ} (h : 0 < tallyAt g u n g' u') : g' = g := by
  rw [tallyAt_apply] at h
  by_contra hn
  rw [if_neg (fun h' => hn h'.1)] at h
  exact Nat.lt_irrefl 0 h

def L (g : GSem nD τ sig) : Finset Unit := if g.1.2 = .tc then {()} else ∅
def lvOf : Option CI → ℕ
  | some (.inl _) => 1
  | some (.inr (.inl _)) => 0
  | some (.inr (.inr _)) => 2
  | none => 0
/-- Barrier cells at 1, receive cells at 2, everything else at 0. -/
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [decode_bar]; rfl
theorem lv_recv (c : Dev nD) (k : Fin 15) : lv (recvCell c k) () = 2 := by unfold lv; rw [decode_recv]; rfl
theorem lv_send (c : Dev nD) (k : Fin 15) : lv (sendCell c k) () = 0 := by unfold lv; rw [decode_send]; rfl
theorem lv_copy (c : Dev nD) (b : Fin 2) : lv (copyCell c b) () = 0 := by unfold lv; rw [decode_copy]; rfl

/-- All that is owed lies above level `n`. -/
def Above (n : ℕ) (O : CellTallies nD τ sig Unit) : Prop := ∀ g u, 0 < O g u → () ∈ L g ∧ n < lv g ()

theorem above_zero (n : ℕ) : Above n 0 := fun g u h => absurd h (Nat.lt_irrefl 0)
theorem above_recvSum {n : ℕ} (hn : n < 2) (c : Dev nD) (j : ℕ) : Above n (recvSum c j) := fun g u h => by
  obtain ⟨k, -, hk⟩ := sum_pos _ _ h
  rw [tally_pos hk, L_tc, lv_recv]
  exact ⟨Finset.mem_singleton_self _, hn⟩
theorem above_barSum {n : ℕ} (hn : n < 1) (c : Dev nD) (j : ℕ) : Above n (barSum c j) := fun g u h => by
  obtain ⟨k, -, hk⟩ := sum_pos _ _ h
  rw [tally_pos hk, L_tc, lv_bar]
  exact ⟨Finset.mem_singleton_self _, hn⟩
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · rw [h0, Nat.zero_add] at hp; exact h' g u hp
  · exact h g u h0

theorem mayWait_of {n : ℕ} (c : Dev nD) (sm : SemLoc sig) (hsm : lv ((c : Thread nD τ), sm) () ≤ n) {O : CellTallies nD τ sig Unit} (hO : Above n O) :
    (levAts L lv : sProp 𝕄) ⊢ (MayWait (c : Thread nD τ) sm () O : sProp 𝕄) :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hsm) (fun g u hg => (hO g u hg).2)

/-! ## What all devices know -/

/-- Every cell's invariant, under the names `K`, and that it has reached its round. -/
def records (K : Dev nD × CI → ℕ) : sProp 𝕄 :=
  bigSep Finset.univ fun ck : Dev nD × CI => iprop(cellInv ER (sched A) (K ck) (kcell ck) ∗ reached ER (kcell ck) 0)

instance records_persistent (K : Dev nD × CI → ℕ) : BI.Persistent (records A K) := by unfold records; infer_instance

def pers (K : Dev nD × CI → ℕ) : sProp 𝕄 := iprop(records A K ∗ levAts L lv)
instance pers_persistent (K : Dev nD × CI → ℕ) : BI.Persistent (pers A K) := by unfold pers; infer_instance

theorem records_at (K : Dev nD × CI → ℕ) (ck : Dev nD × CI) : records A K ⊢ iprop(cellInv ER (sched A) (K ck) (kcell ck) ∗ reached ER (kcell ck) 0) := by
  unfold records
  exact bigSep_elim (Finset.mem_univ ck)

theorem pers_at (K : Dev nD × CI → ℕ) (ck : Dev nD × CI) : pers A K ⊢ (iprop(cellInv ER (sched A) (K ck) (kcell ck) ∗ reached ER (kcell ck) 0) : sProp 𝕄) := by
  unfold pers
  iintro ⟨H, -⟩
  iapply (records_at A K ck)
  iexact H
theorem pers_lev (K : Dev nD × CI → ℕ) : pers A K ⊢ (levAts L lv : sProp 𝕄) := by
  unfold pers
  iintro ⟨-, H⟩
  iexact H

end Cert.KernelIdealProof

end
-- ==== Proof.Steps.lean ====
module

public import proofs.«01_k».proof.Proof.Protocol

@[expose] public section

set_option maxRecDepth 100000

noncomputable section

/-! The steps of the body, one theorem each: what a device holds before a step and what it holds after. -/

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
/-- The counters of the transfers inside one device. -/
abbrev EC : UEmb Counters (MT nD τ sig Unit (Elt F) ℕ UU ℕ) := countersEmb (U := UU)

variable (A : Args F) (K : Dev nD × CI → ℕ)

/-! ## Triples -/

abbrev WP {α : Type} (c : Dev nD) (p : P' (F := F) α) (Q : α → sProp 𝕄) : sProp 𝕄 :=
  wp frame (wpE (defs₀ (F := F)) 𝒱₀ (c : Thread nD τ) none) Set.univ p Q

/-- From `X`, on device `c`, the program `p` runs to `Y`. -/
def Tr (c : Dev nD) (X : sProp 𝕄) (p : P' (F := F) PUnit) (Y : sProp 𝕄) : Prop :=
  ∀ Kt : PUnit → sProp 𝕄, iprop(pers A K ∗ X ∗ (Y -∗ Kt ⟨⟩)) ⊢ WP c p Kt

variable {A K}

theorem Tr.seq {c : Dev nD} {X Y Z : sProp 𝕄} {p q : P' (F := F) PUnit} (hp : Tr A K c X p Y) (hq : Tr A K c Y q Z) :
    Tr A K c X (p >>= fun _ => q) Z := fun Kt => by
  unfold WP
  rw [wp_bind]
  iintro ⟨#HP, HX, Hk⟩
  iapply (hp fun _ => WP c q Kt)
  isplitr; · iexact HP
  isplitl [HX]; · iexact HX
  iintro HY
  iapply (hq Kt)
  isplitr; · iexact HP
  isplitl [HY]; · iexact HY
  iexact Hk

theorem Tr.frame {c : Dev nD} {X Y : sProp 𝕄} {p : P' (F := F) PUnit} (hp : Tr A K c X p Y) (R : sProp 𝕄) :
    Tr A K c iprop(X ∗ R) p iprop(Y ∗ R) := fun Kt => by
  iintro ⟨#HP, ⟨HX, HR⟩, Hk⟩
  iapply (hp Kt)
  isplitr; · iexact HP
  isplitl [HX]; · iexact HX
  iintro HY
  iapply Hk
  isplitl [HY] <;> iassumption

theorem Tr.conseq {c : Dev nD} {X X' Y Y' : sProp 𝕄} {p : P' (F := F) PUnit} (hp : Tr A K c X p Y) (hX : X' ⊢ X) (hY : Y ⊢ Y') :
    Tr A K c X' p Y' := fun Kt => by
  iintro ⟨#HP, HX, Hk⟩
  iapply (hp Kt)
  isplitr; · iexact HP
  isplitl [HX]; · iapply hX; iexact HX
  iintro HY
  iapply Hk
  iapply hY
  iexact HY

/-! ## Families over the steps -/

/-- Of the fifteen steps those before `n` hold `D`, the others `T`. -/
def Fam (D T : Fin 15 → sProp 𝕄) (n : ℕ) : sProp 𝕄 := bigSep Finset.univ fun k : Fin 15 => if k.val < n then D k else T k

theorem Fam_zero (D T : Fin 15 → sProp 𝕄) : Fam D T 0 = bigSep Finset.univ T :=
  bigSep_congr fun k _ => if_neg (Nat.not_lt_zero _)
theorem Fam_end (D T : Fin 15 → sProp 𝕄) : Fam D T 15 = bigSep Finset.univ D :=
  bigSep_congr fun k _ => if_pos k.isLt

theorem Fam_peel (D T : Fin 15 → sProp 𝕄) (k : Fin 15) : Fam D T k.val ⊢ iprop(T k ∗ (D k -∗ Fam D T (k.val + 1))) := by
  unfold Fam
  rw [bigSep_univ_at _ k, bigSep_univ_at (fun j : Fin 15 => if j.val < k.val + 1 then D j else T j) k, if_neg (Nat.lt_irrefl _), if_pos (Nat.lt_succ_self _)]
  iintro ⟨HT, HR⟩
  isplitl [HT]; · iexact HT
  iintro HD
  isplitl [HD]; · iexact HD
  have h : bigSep (Finset.univ.erase k) (fun j : Fin 15 => if j.val < k.val then D j else T j)
      = bigSep (Finset.univ.erase k) (fun j : Fin 15 => if j.val < k.val + 1 then D j else T j) :=
    bigSep_congr fun j hj => by
      have hne : j ≠ k := (Finset.mem_erase.mp hj).1
      have : j.val ≠ k.val := fun h => hne (Fin.ext h)
      by_cases hlt : j.val < k.val
      · rw [if_pos hlt, if_pos (by omega)]
      · rw [if_neg hlt, if_neg (by omega)]
  iapply (Entails.of_eq h)
  iexact HR

/-- One step of a family. -/
theorem Tr.fam {c : Dev nD} {I J : sProp 𝕄} {D T : Fin 15 → sProp 𝕄} {k : Fin 15} {p : P' (F := F) PUnit}
    (h : Tr A K c iprop(I ∗ T k) p iprop(J ∗ D k)) : Tr A K c iprop(I ∗ Fam D T k.val) p iprop(J ∗ Fam D T (k.val + 1)) := fun Kt => by
  iintro ⟨#HP, ⟨HI, HF⟩, Hk⟩
  ihave HF := (Fam_peel D T k) $$ HF
  icases HF with ⟨HT, HF⟩
  iapply (h Kt)
  isplitr; · iexact HP
  isplitl [HI HT]; · (isplitl [HI] <;> iassumption)
  iintro ⟨HJ, HD⟩
  iapply Hk
  isplitl [HJ]; · iexact HJ
  iapply HF
  iexact HD

/-! ## The barrier's signals -/

/-- The waits a device has done do not matter: what it owes. -/
def owesW (c : Dev nD) (O : CellTallies nD τ sig Unit) : sProp 𝕄 := iprop(∃ W, owes (c : Thread nD τ) O W)

def SigT (c : Dev nD) (k : Fin 15) : sProp 𝕄 := iprop(dutyTok ER (barCell (peer c k)) 0 (Fin.rev k) ∗ ∃ f, rPts c (Fin.rev k) f)

theorem wp_signal_at (c n : Dev nD) (k : Fin 15) (hn : n = peer c k) (Kt : PUnit → sProp 𝕄) :
    iprop(pers A K ∗ (owesW c (recvSum c 0 + barSum c k.val) ∗ SigT c k) ∗ (owesW c (recvSum c 0 + barSum c (k.val + 1)) ∗ emp -∗ Kt ⟨⟩))
      ⊢ WP (F := F) c (semSignalWord n barS 1#32) Kt := by
  subst hn
  unfold owesW SigT
  simp only [semSignalWord, Prog.lift, Prog.bind_op, Prog.bind_ret, Prog.pure_eq_ret]
  iintro ⟨#HP, ⟨⟨%W, HO⟩, Htok, ⟨%f, Hr⟩⟩, Hk⟩
  ihave #HB := (pers_at A K (peer c k, .inl ())) $$ HP
  icases HB with ⟨#HI, #HR⟩
  iapply (Rounds.wp_signal 𝒱₀ ER (sched A) (c : Thread nD τ) none (dst := (peer c k : Thread nD τ)) (κ := K (peer c k, .inl ()))
      (d := Fin.rev k) (by rw [duties_bar]; exact Finset.mem_univ _) ((amount_bar A (peer c k) (Fin.rev k)).trans (by decide)) ()
      (O₀ := recvSum c 0 + barSum c k.val) (recvSum c 0 + barSum c (k.val + 1)) (by rw [barSum_peel, ← add_assoc]; rfl))
    $$ [HO Htok Hr]
  · isplitr; · iexact HI
    isplitl [HO]; · iexact HO
    isplitl [Htok]; · iexact Htok
    isplitl [Hr]
    · rw [payload_bar]; unfold barPay; rw [peer_rev]
      iexists f; iexact Hr
    · iexact HR
  iintro HO
  rw [wp_ret]; imodintro
  iapply Hk
  isplitl [HO]
  · iexists W; iexact HO
  · iempintro

theorem tr_sig (c : Dev nD) (k : Fin 15) :
    Tr A K c iprop(owesW c (recvSum c 0 + barSum c k.val) ∗ SigT c k) (sigP k c) iprop(owesW c (recvSum c 0 + barSum c (k.val + 1)) ∗ emp) :=
  fun Kt => wp_signal_at c (barDev k c) k (barDev_eq k c) Kt

/-! ## The copies of the column blocks -/

/-- The half of the weights' share that weight slot `b`'s copies read. -/
def hq (b : Fin 2) : PosShare TreeShare := match b with
  | 0 => fullShare.left
  | 1 => fullShare.right

/-- A weight slot and what its copy reads, at rest. -/
def Free (A : Args F) (c : Dev nD) (b : Fin 2) : sProp 𝕄 :=
  iprop((∃ f, wbPts c b f) ∗ semVal (copyCell c b) 0 ∗ (wLoc c ↦{hq b} A.w c))
/-- The same with column block `t` in the slot. -/
def Got (A : Args F) (c : Dev nD) (t : Dev nD) (b : Fin 2) : sProp 𝕄 :=
  iprop((∃ f, ⌜wbM.view.readAt (Elt F) (rW b).toLoadRect f = wcol A c t⌝ ∗ wbPts c b f) ∗ semVal (copyCell c b) 0 ∗ (wLoc c ↦{hq b} A.w c))
/-- The copy of column block number `d` on its way. -/
def Fly (A : Args F) (c : Dev nD) (d : Fin 16) (b : Fin 2) : sProp 𝕄 :=
  iprop(Transfers.Flight EC (c : Thread nD τ) (.dma (copyS b)) () NW
      iprop((∃ f, ⌜wbM.view.readAt (Elt F) (rW b).toLoadRect f = wcol A c (col c d)⌝ ∗ wbPts c b f) ∗ (wLoc c ↦[(wCol c d).view.set]{hq b} A.w c))
    ∗ (wLoc c ↦[Finset.univ \ (wCol c d).view.set]{hq b} A.w c))

theorem Got_Free (c t : Dev nD) (b : Fin 2) : Got A c t b ⊢ Free A c b := by
  unfold Got Free
  iintro ⟨⟨%f, -, Hw⟩, Hrest⟩
  isplitl [Hw]; · iexists f; iexact Hw
  iexact Hrest

theorem tr_copy (c : Dev nD) (d : Fin 16) (b : Fin 2) : Tr A K c (Free A c b) (copyP c d b) (Fly A c d b) := fun Kt => by
  unfold Free Fly copyP wbPts
  simp only [Prog.lift]
  iintro ⟨#HP, ⟨⟨%f, Hw⟩, Hv, HW⟩, Hk⟩
  ihave HW := (pointsTo_split_subset (Finset.subset_univ (wCol c d).view.set)).1 $$ HW
  icases HW with ⟨HW1, HW2⟩
  iapply (Transfers.wp_dmaLocal EC 𝒱₀ (c : Thread nD τ) none (src := wCol c d) (dst := wSlot b) (Sd := (rW b).set) (fd := f) () NW rfl NW_pos
    (by rw [set_wSlot])) $$ [HW1 Hw Hv]
  · isplitl [HW1]; · iexact HW1
    isplitl [Hw]; · iexact Hw
    iexact Hv
  iintro HF
  rw [wp_ret]; imodintro
  iapply Hk
  isplitl [HF]
  · iapply (Transfers.Flight_mono EC (c : Thread nD τ) ?_) $$ HF
    iintro ⟨Hd, Hs⟩
    isplitl [Hd]
    · iexists _
      isplitr
      rotate_left
      · iexact Hd
      · ipureintro
        exact load_wSlot A c d b f
    · iexact Hs
  · iexact HW2

theorem mayWait_copy (c : Dev nD) (b : Fin 2) {O : CellTallies nD τ sig Unit} (hO : Above 0 O) :
    pers A K ⊢ (MayWait (c : Thread nD τ) (.dma (copyS b)) () O : sProp 𝕄) :=
  (pers_lev A K).trans (mayWait_of (n := 0) c (.dma (copyS b)) (le_of_eq (lv_copy c b)) hO)

/-- The wait for a copy. -/
theorem tr_copyWait (c : Dev nD) (d : Fin 16) (b : Fin 2) {O : CellTallies nD τ sig Unit} (hO : Above 0 O) :
    Tr A K c iprop(Fly A c d b ∗ owesW c O) (copyWaitP c d b) iprop(Got A c (col c d) b ∗ owesW c O) := fun Kt => by
  unfold Fly Got copyWaitP owesW
  simp only [Prog.lift]
  iintro ⟨#HP, ⟨⟨HF, HW2⟩, ⟨%W, HO⟩⟩, Hk⟩
  iapply (Transfers.wp_waitLocalO EC 𝒱₀ (c : Thread nD τ) none (srcw := wCol c d) (dstw := wSlot b) () (N := NW) rfl (O := O) (W := W)) $$ [HF HO]
  · isplitl [HF]; · iexact HF
    isplitl [HO]; · iexact HO
    iapply (mayWait_copy c b hO) $$ HP
  iintro ⟨⟨Hw, HW1⟩, Hv, HO⟩
  rw [wp_ret]; imodintro
  iapply Hk
  isplitr [HO]
  · isplitl [Hw]; · iexact Hw
    isplitl [Hv]; · iexact Hv
    iapply (pointsTo_split_subset (Finset.subset_univ (wCol c d).view.set)).2
    isplitl [HW1] <;> iassumption
  · iexists _; iexact HO

end Cert.KernelIdealProof

end
-- ==== Proof.Blocks.lean ====
module

public import proofs.«01_k».proof.Proof.Steps

@[expose] public section

set_option maxRecDepth 100000

noncomputable section

/-! The steps that load, compute, store, send and receive. -/

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × CI → ℕ)

/-! ## The buffers of a whole device -/

abbrev xLoc (c : Dev nD) : Loc nD τ sig := (c : Thread nD τ).loc cc0_stg0_0
abbrev sxLoc (c : Dev nD) : Loc nD τ sig := (c : Thread nD τ).loc cc0_stg1_0
abbrev swLoc (c : Dev nD) : Loc nD τ sig := (c : Thread nD τ).loc cc0_stg2_0

/-- The left operand cast. -/
def xbPts (c : Dev nD) : sProp 𝕄 := xbLoc c ↦{fullShare} xcast A c
/-- The result with its rows in place up to step `n` of the last loop. -/
def OutS (c : Dev nD) (n : ℕ) : sProp 𝕄 := iprop(∃ f, ⌜∀ i, outDone c n i → f i = outc A c i⌝ ∗ (oLoc c ↦{fullShare} f))
/-- The staged arguments. -/
def stgs (c : Dev nD) : sProp 𝕄 := iprop((xLoc c ↦{fullShare} A.x c) ∗ (sxLoc c ↦{fullShare} A.sx c) ∗ (swLoc c ↦{fullShare} A.sw c))

theorem hz2 : (![0, 0] : Fin 2 → Nat) = fun _ => 0 := funext fun a => by fin_cases a <;> rfl

theorem read_x (f : S256x4096.Idx → Elt F .fp8e4m3) : xM.view.readAt (Elt F) rX.toLoadRect f = f :=
  Memref.readAt_unit_zero (Elt F) cc0_stg0_0 hz2 _ f
theorem read_xb (f : S256x4096.Idx → Elt F .bf16) : xbM.view.readAt (Elt F) rX.toLoadRect f = f :=
  Memref.readAt_unit_zero (Elt F) cc0_scratch0 hz2 _ f
theorem write_xb (f w : S256x4096.Idx → Elt F .bf16) : (xbM.access rX).write (Elt F) f w Finset.univ = w :=
  Memref.write_access_unit_zero_univ (Elt F) cc0_scratch0 hz2 _ f w

theorem on_wbM (b : Fin 2) : wbM.view.setOn (rW b).set = (rW b).set := (View.set_slice wbM.view (rW b)).symm.trans (set_wAcc b)
theorem on_sbM (k : Fin 15) : sbM.view.setOn (rSlot k).set = (rSlot k).set := (View.set_slice sbM.view (rSlot k)).symm.trans (set_sAcc k)
theorem on_rbM (k : Fin 15) : rbM.view.setOn (rSlot k).set = (rSlot k).set := (View.set_slice rbM.view (rSlot k)).symm.trans (set_rAcc k)

theorem idx1 (i j : S1.Idx) : i = j := funext fun a => match a with | ⟨0, _⟩ => Subsingleton.elim (α := Fin 1) (i 0) (j 0)

theorem read_scl (A : Args F) (c : Dev nD) (x y : (Rect.unit (s := S1) ![0] S1.size inb_S1_S1_0).shape.Idx) :
    k0_pay1 ((sxM.access (Rect.unit (s := S1) ![0] S1.size inb_S1_S1_0)).read (Elt F) (A.sx c) x)
      ((swM.access (Rect.unit (s := S1) ![0] S1.size inb_S1_S1_0)).read (Elt F) (A.sw c) y) = scl A c :=
  congrArg₂ k0_pay1 (congrArg (A.sx c) (idx1 _ _)) (congrArg (A.sw c) (idx1 _ _))

theorem mayWait_bar (c : Dev nD) : pers A K ⊢ (MayWait (c : Thread nD τ) (.reg barS) () (recvSum c 0) : sProp 𝕄) :=
  (pers_lev A K).trans (mayWait_of (n := 1) c (.reg barS) (le_of_eq (lv_bar c)) (above_recvSum (by decide) c 0))

/-! ## The barrier's wait and the operands -/

theorem wp_head (c : Dev nD) (Kt : F .f32 → sProp 𝕄) :
    iprop(pers A K ∗ (owesW c (recvSum c 0) ∗ cred (tallyAt (barCell c) () 15) ∗ atPos ER (barCell c) 0 ∅ 0 ∗ stgs A c ∗ ∃ f, (xbLoc c ↦{fullShare} f))
        ∗ ((owesW c (recvSum c 0) ∗ semVal (barCell c) 0 ∗ bigSep Finset.univ (fun j => barPay (F := F) c j) ∗ stgs A c ∗ xbPts A c) -∗ Kt (scl A c)))
      ⊢ WP (F := F) c headP Kt := by
  unfold owesW headP stgs xbPts
  simp only [semWaitWord, smemLoad, smemLoadElt, Prog.lift, Prog.bind_op, Prog.bind_ret, Prog.pure_eq_ret]
  iintro ⟨#HP, ⟨⟨%W, HO⟩, HcB, HatB, ⟨Hx, Hsx, Hsw⟩, ⟨%fb, Hxb⟩⟩, Hk⟩
  ihave #HB := (pers_at A K (c, .inl ())) $$ HP
  icases HB with ⟨#HI, #HR⟩
  iapply (Rounds.wp_wait_rest_token 𝒱₀ ER (sched A) (c : Thread nD τ) none (κ := K (c, .inl ()))
      (wpE_semWait_eq 𝒱₀ (c : Thread nD τ) none Set.univ) (Set.mem_univ _) () (O := recvSum c 0) (W := W) (R := 0) (m := 0) (T := ∅)
      (by rw [expect_bar]; decide)) $$ [HcB HO HatB]
  · isplitr; · iexact HI
    isplitl [HcB]; · iexact HcB
    isplitl [HO]; · iexact HO
    isplitr; · iapply (mayWait_bar A K c); iexact HP
    iexact HatB
  iintro ⟨HO, HatB, -, Hpay⟩
  ihave Hp := (Entails.of_eq (rest_bar A c)) $$ Hpay
  imod (Rounds.cell_close ER (sched A) (Set.mem_univ (K (c, .inl ()))) (fun h => h) (R := 0 + 1) (duties_later A (barCell c))) $$ [HatB] with HzB
  · isplitr; · iexact HI
    iexact HatB
  iapply (wp_load_rect 𝒱₀ (c : Thread nD τ) none Set.univ (m := sxM) (r := Rect.unit (s := S1) ![0] S1.size inb_S1_S1_0) (Finset.subset_univ _)) $$ Hsx; iintro Hsx
  iapply (wp_load_rect 𝒱₀ (c : Thread nD τ) none Set.univ (m := swM) (r := Rect.unit (s := S1) ![0] S1.size inb_S1_S1_0) (Finset.subset_univ _)) $$ Hsw; iintro Hsw
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hxb; iintro Hxb
  iapply (wp_store 𝒱₀ (c : Thread nD τ) none Set.univ (m := xbM) (r := rX) (Mk := Finset.univ) (Finset.subset_univ _)) $$ Hxb; iintro Hxb
  rw [read_x, write_xb, wp_ret]; imodintro
  rw [show ∀ x y, k0_pay1 ((sxM.access (Rect.unit (s := S1) ![0] S1.size inb_S1_S1_0)).read (Elt F) (A.sx c) x)
      ((swM.access (Rect.unit (s := S1) ![0] S1.size inb_S1_S1_0)).read (Elt F) (A.sw c) y) = scl A c from fun x y => read_scl A c x y]
  iapply Hk
  isplitl [HO]; · iexists _; iexact HO
  isplitl [HzB]; · iexact HzB
  isplitl [Hp]; · iexact Hp
  isplitr [Hxb]
  · isplitl [Hx]; · iexact Hx
    isplitl [Hsx] <;> iassumption
  · iexact Hxb

/-! ## The device's own block -/

variable {A K}

theorem tr_own (c : Dev nD) (O : CellTallies nD τ sig Unit) (hO : Above 0 O) :
    Tr A K c iprop(Fly A c 0 0 ∗ owesW c O ∗ xbPts A c ∗ ∃ f, (oLoc c ↦{fullShare} f)) (ownP c (scl A c))
      iprop(Free A c 0 ∗ owesW c O ∗ xbPts A c ∗ OutS A c 0) := fun Kt => by
  unfold ownP WP
  rw [wp_bind]
  iintro ⟨#HP, ⟨HF, HO, Hxb, ⟨%fo, Ho⟩⟩, Hk⟩
  iapply (tr_copyWait (A := A) (K := K) c 0 0 hO _)
  isplitr; · iexact HP
  isplitl [HF HO]; · (isplitl [HF] <;> iassumption)
  rw [col_zero]
  iintro ⟨HG, HO⟩
  unfold Got xbPts wbPts
  icases HG with ⟨⟨%fw, %hfw, Hw⟩, Hrest⟩
  simp only [Prog.lift, Prog.bind_op, Prog.bind_ret, Prog.pure_eq_ret]
  iapply (wp_load 𝒱₀ (c : Thread nD τ) none Set.univ (m := wbM) (Finset.subset_of_eq (on_wbM _))) $$ Hw; iintro Hw
  rw [hfw]
  iapply (wp_load 𝒱₀ (c : Thread nD τ) none Set.univ (m := xbM) (Finset.subset_univ _)) $$ Hxb; iintro Hxb
  rw [read_xb]
  iapply (wp_load 𝒱₀ (c : Thread nD τ) none Set.univ (m := oM) (Finset.subset_univ _)) $$ Ho; iintro Ho
  iapply (wp_store 𝒱₀ (c : Thread nD τ) none Set.univ (m := oM) (r := rMy c) (Mk := Finset.univ) (Finset.subset_univ _)) $$ Ho; iintro Ho
  rw [wp_ret]; imodintro
  iapply Hk
  isplitl [Hw Hrest]
  · iapply (Got_Free (A := A) c c 0)
    unfold Got wbPts
    isplitl [Hw]
    · iexists fw
      isplitr; · ipureintro; exact hfw
      iexact Hw
    · iexact Hrest
  isplitl [HO]; · iexact HO
  isplitl [Hxb]; · iexact Hxb
  unfold OutS
  iexists _
  isplitr
  rotate_left
  · iexact Ho
  · ipureintro
    exact store_own A c fo

/-! ## A block sent -/

/-- What the step sending block `k` uses up. -/
def SendT (c : Dev nD) (k : Fin 15) : sProp 𝕄 :=
  iprop((∃ f, sPts c k f) ∗ barPay c k ∗ dutyTok ER (sendCell c k) 0 0 ∗ dutyTok ER (recvCell (peer c k) k) 0 0)

theorem wp_send_at (c n : Dev nD) (k : Fin 15) (hn : n = peer c k) {hsc : (rcSlot k : Memref sig (Dev.tc n : Thread nD τ).2.kind .vmem S256x512 .bf16).view.ref.isScScratch = false}
    {hsrc : (sSlot k).view.WordExact} {hdst : (rcSlot k).view.WordExact}
    {hsem : DmaTarget.Typed .vmem (.dma (recvS k)) (.remote (Dev.tc n : Thread nD τ) (rcSlot k : Memref sig .tc .vmem S256x512 .bf16) (.dma (sendS k)) hsc)}
    {α : Type} {Q : α → sProp 𝕄} {kk : PUnit → P' (F := F) α} (fr : Buf (Elt F) (rLoc (peer c k))) (fs : Buf (Elt F) (sLoc c))
    (hfs : ∀ i ∈ (rSlot k).set, fs i = sbuf A c i) (W : Waits sig Unit) :
    iprop(pers A K ∗ sPts c k fs ∗ rPts (peer c k) k fr ∗ owes (c : Thread nD τ) (recvSum c k.val) W
        ∗ dutyTok ER (sendCell c k) 0 0 ∗ dutyTok ER (recvCell (peer c k) k) 0 0)
      ⊢ iprop(((cred (tallyAt (sendCell c k) () N) ∗ owes (c : Thread nD τ) (recvSum c (k.val + 1)) W) -∗ WP c (kk ⟨⟩) Q)
          -∗ WP c (.op (.enqueueDma (sSlot k) (.remote (Dev.tc n : Thread nD τ) (rcSlot k) (.dma (sendS k)) hsc) (.dma (recvS k)) hsrc hdst hsem) kk) Q) := by
  subst hn
  have hfs' : sPts c k fs = (sPts c k (sbuf A c) : sProp 𝕄) := pointsTo_congr hfs
  rw [hfs']
  iintro ⟨#HP, Hs, Hr, HO, Ht1, Ht2⟩
  ihave #HB1 := (pers_at A K (c, .inr (.inl k))) $$ HP
  ihave #HB2 := (pers_at A K (peer c k, .inr (.inr k))) $$ HP
  icases HB1 with ⟨#HI1, #HR1⟩
  icases HB2 with ⟨#HI2, #HR2⟩
  iapply (Rounds.wp_send_pointsTo 𝒱₀ ER (sched A) (c : Thread nD τ) none (c' := (peer c k : Thread nD τ)) (src := sSlot k) (dst := rcSlot k) (κ₁ := K (c, .inr (.inl k))) (κ₂ := K (peer c k, .inr (.inr k)))
    (r₁ := 0) (r₂ := 0) (d₁ := 0) (d₂ := 0) (fs := sbuf A c) (fd := fr) (q := fullShare)
    (by rw [duties_send]; exact Finset.mem_singleton_self _) (by rw [duties_recv]; exact Finset.mem_singleton_self _)
    () () N rfl (amount_send A c k 0) (amount_recv A (peer c k) k 0) (recvSum c (k.val + 1)) (recvSum_peel c k) (W := W)
    (by rw [payload_send]; unfold sendPay sPts; rw [set_sSlot])
    (by rw [payload_recv]; unfold recvPay rPts; rw [pointsTo_congr (land_rcSlot A c k fr), set_rcSlot])) $$ [Hs Hr HO Ht1 Ht2]
  isplitr; · iexact HI1
  isplitr; · iexact HI2
  isplitl [Hs]; · (unfold sPts; rw [set_sSlot]; iexact Hs)
  isplitl [Hr]; · (unfold rPts; rw [set_rcSlot]; iexact Hr)
  isplitl [HO]; · iexact HO
  isplitl [Ht1]; · iexact Ht1
  isplitr; · iexact HR1
  isplitl [Ht2]; · iexact Ht2
  iexact HR2

theorem tr_send (c : Dev nD) (k : Fin 15) (b : Fin 2) :
    Tr A K c iprop((Fly A c k.succ b ∗ owesW c (recvSum c k.val) ∗ xbPts A c) ∗ SendT c k) (sendP c (scl A c) k k.succ b)
      iprop((Free A c b ∗ owesW c (recvSum c (k.val + 1)) ∗ xbPts A c) ∗ cred (tallyAt (sendCell c k) () N)) := fun Kt => by
  unfold sendP WP
  rw [wp_bind]
  iintro ⟨#HP, ⟨⟨HF, HO, Hxb⟩, HT⟩, Hk⟩
  iapply (tr_copyWait (A := A) (K := K) c k.succ b (above_recvSum (by decide) c k.val) _)
  isplitr; · iexact HP
  isplitl [HF HO]; · (isplitl [HF] <;> iassumption)
  rw [col_succ]
  iintro ⟨HG, HO⟩
  unfold Got xbPts wbPts SendT barPay owesW
  icases HG with ⟨⟨%fw, %hfw, Hw⟩, Hrest⟩
  icases HT with ⟨⟨%fs, Hs⟩, ⟨%fr, Hr⟩, Ht1, Ht2⟩
  icases HO with ⟨%W, HO⟩
  simp only [Prog.lift, Prog.bind_op, Prog.bind_ret, Prog.pure_eq_ret]
  iapply (wp_load 𝒱₀ (c : Thread nD τ) none Set.univ (m := wbM) (Finset.subset_of_eq (on_wbM _))) $$ Hw; iintro Hw
  rw [hfw]
  iapply (wp_load 𝒱₀ (c : Thread nD τ) none Set.univ (m := xbM) (Finset.subset_univ _)) $$ Hxb; iintro Hxb
  rw [read_xb]
  unfold sPts
  iapply (wp_load 𝒱₀ (c : Thread nD τ) none Set.univ (m := sbM) (Finset.subset_of_eq (on_sbM _))) $$ Hs; iintro Hs
  iapply (wp_store 𝒱₀ (c : Thread nD τ) none Set.univ (m := sbM) (r := rSlot k) (Mk := Finset.univ) (Finset.subset_of_eq (set_sAcc k))) $$ Hs; iintro Hs
  iapply (wp_send_at (A := A) (K := K) c (sendDev k c) k (sendDev_eq k c) fr _ (store_sSlot A c k fs) W) $$ [Hs Hr HO Ht1 Ht2]
  · isplitr; · iexact HP
    isplitl [Hs]; · (unfold sPts; iexact Hs)
    isplitl [Hr]; · iexact Hr
    isplitl [HO]; · iexact HO
    isplitl [Ht1] <;> iassumption
  iintro ⟨Hc, HO⟩
  unfold WP
  rw [wp_ret]; imodintro
  iapply Hk
  isplitr [Hc]
  · isplitl [Hw Hrest]
    · iapply (Got_Free (A := A) c (peer c k) b)
      unfold Got wbPts
      isplitl [Hw]
      · iexists fw
        isplitr; · ipureintro; exact hfw
        iexact Hw
      · iexact Hrest
    isplitl [HO]; · iexists W; iexact HO
    iexact Hxb
  · iexact Hc

/-! ## A block received -/

def RecvT (c : Dev nD) (k : Fin 15) : sProp 𝕄 := iprop(atPos ER (recvCell c k) 0 ∅ 0 ∗ cred (tallyAt (recvCell c k) () N))
def RecvD (c : Dev nD) (k : Fin 15) : sProp 𝕄 := iprop(semVal (recvCell c k) 0 ∗ ∃ f, rPts c k f)

theorem tr_recv (c : Dev nD) (k : Fin 15) :
    Tr A K c iprop((owesW c 0 ∗ OutS A c k.val) ∗ RecvT c k) (recvP c k) iprop((owesW c 0 ∗ OutS A c (k.val + 1)) ∗ RecvD c k) := fun Kt => by
  unfold recvP owesW OutS RecvT RecvD WP
  simp only [Prog.lift, Prog.bind_op, Prog.bind_ret, Prog.pure_eq_ret]
  iintro ⟨#HP, ⟨⟨⟨%W, HO⟩, ⟨%fo, %hfo, Ho⟩⟩, ⟨Hat, Hc⟩⟩, Hk⟩
  ihave #HB := (pers_at A K (c, .inr (.inr k))) $$ HP
  icases HB with ⟨#HI, #HR⟩
  iapply (Rounds.wp_wait_rest_token 𝒱₀ ER (sched A) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add]; exact (expect_recv A c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hr := (Entails.of_eq (rest_recv A c k)) $$ Hpay
  imod (Rounds.cell_close ER (sched A) (Set.mem_univ (K (c, .inr (.inr k)))) (fun h => h) (R := 0 + 1) (duties_later A (recvCell c k))) $$ [Hat] with Hz
  · isplitr; · iexact HI
    iexact Hat
  unfold recvPay rPts
  iapply (wp_load 𝒱₀ (c : Thread nD τ) none Set.univ (m := rbM) (Finset.subset_of_eq (on_rbM _))) $$ Hr; iintro Hr
  rw [load_rcSlot]
  iapply (wp_load 𝒱₀ (c : Thread nD τ) none Set.univ (m := oM) (Finset.subset_univ _)) $$ Ho; iintro Ho
  iapply (wp_store 𝒱₀ (c : Thread nD τ) none Set.univ (m := oM) (r := rRow c k) (Mk := Finset.univ) (Finset.subset_univ _)) $$ Ho; iintro Ho
  rw [wp_ret]; imodintro
  iapply Hk
  isplitl [HO Ho]
  · isplitl [HO]; · iexists _; iexact HO
    iexists _
    isplitr
    rotate_left
    · iexact Ho
    · ipureintro
      exact store_recv A c k fo hfo
  · isplitl [Hz]; · iexact Hz
    iexists _; iexact Hr

/-! ## The waits for the sends -/

def SwT (c : Dev nD) (k : Fin 15) : sProp 𝕄 := iprop(atPos ER (sendCell c k) 0 ∅ 0 ∗ cred (tallyAt (sendCell c k) () N))
def SwD (c : Dev nD) (k : Fin 15) : sProp 𝕄 := iprop(semVal (sendCell c k) 0 ∗ ∃ f, sPts c k f)

theorem tr_sendWait (c : Dev nD) (k : Fin 15) :
    Tr A K c iprop(owesW c 0 ∗ SwT c k) (sendWaitP k) iprop(owesW c 0 ∗ SwD c k) := fun Kt => by
  unfold sendWaitP owesW SwT SwD WP
  simp only [Prog.lift, Prog.bind_op, Prog.bind_ret, Prog.pure_eq_ret]
  iintro ⟨#HP, ⟨⟨%W, HO⟩, ⟨Hat, Hc⟩⟩, Hk⟩
  ihave #HB := (pers_at A K (c, .inr (.inl k))) $$ HP
  icases HB with ⟨#HI, #HR⟩
  iapply (Rounds.wp_wait_rest_token 𝒱₀ ER (sched A) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add]; exact (expect_send A c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (Entails.of_eq (rest_send A c k)) $$ Hpay
  imod (Rounds.cell_close ER (sched A) (Set.mem_univ (K (c, .inr (.inl k)))) (fun h => h) (R := 0 + 1) (duties_later A (sendCell c k))) $$ [Hat] with Hz
  · isplitr; · iexact HI
    iexact Hat
  rw [wp_ret]; imodintro
  iapply Hk
  isplitl [HO]; · iexists _; iexact HO
  isplitl [Hz]; · iexact Hz
  unfold sendPay
  iexists _; iexact Hs

end Cert.KernelIdealProof

end
-- ==== Proof.Whole.lean ====
module

public import proofs.«01_k».proof.Proof.Blocks

@[expose] public section

set_option maxRecDepth 100000

noncomputable section

/-! The body of the kernel from its steps. -/

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Args F} {K : Dev nD × CI → ℕ}

theorem Tr.pre {c : Dev nD} {X X' Y : sProp 𝕄} {p : P' (F := F) PUnit} (hX : X' ⊢ X) (hp : Tr A K c X p Y) : Tr A K c X' p Y :=
  hp.conseq hX .rfl

/-- Between two steps of the send loop: column block `d` on its way into slot `b`, slot `b'` free, `n` blocks sent. -/
def LoopS (A : Args F) (c : Dev nD) (d : Fin 16) (b b' : Fin 2) (n : ℕ) : sProp 𝕄 :=
  iprop((Fly A c d b ∗ owesW c (recvSum c n) ∗ xbPts A c) ∗ Fam (fun k => cred (tallyAt (sendCell c k) () N)) (SendT c) n ∗ Free A c b')

theorem tr_last {c : Dev nD} {R Y : sProp 𝕄} (k : Fin 15) (d : Fin 16) (b : Fin 2) (n n' : ℕ) {rest : P' (F := F) PUnit}
    (hd : k.succ = d) (hn : k.val = n) (hn' : n + 1 = n') (S : sProp 𝕄)
    (h : Tr A K c iprop((((Free A c b ∗ owesW c (recvSum c n') ∗ xbPts A c) ∗ Fam (fun k => cred (tallyAt (sendCell c k) () N)) (SendT c) n') ∗ S) ∗ R) rest Y) :
    Tr A K c iprop((((Fly A c d b ∗ owesW c (recvSum c n) ∗ xbPts A c) ∗ Fam (fun k => cred (tallyAt (sendCell c k) () N)) (SendT c) n) ∗ S) ∗ R)
      (sendP c (scl A c) k d b >>= fun _ => rest) Y := by
  subst hd hn hn'
  exact Tr.seq (((tr_send c k b).fam.frame S).frame R) h

theorem tr_step {c : Dev nD} {R Y : sProp 𝕄} (k : Fin 15) (d d' : Fin 16) (b b' : Fin 2) (n n' : ℕ) {rest : P' (F := F) PUnit}
    (hd : k.succ = d) (hn : k.val = n) (hn' : n + 1 = n')
    (h : Tr A K c iprop(LoopS A c d' b' b n' ∗ R) rest Y) :
    Tr A K c iprop(LoopS A c d b b' n ∗ R) (copyP c d' b' >>= fun _ => sendP c (scl A c) k d b >>= fun _ => rest) Y := by
  refine Tr.pre (X := iprop(Free A c b' ∗ (((Fly A c d b ∗ owesW c (recvSum c n) ∗ xbPts A c) ∗ Fam (fun k => cred (tallyAt (sendCell c k) () N)) (SendT c) n) ∗ R))) ?_
    (Tr.seq ((tr_copy c d' b').frame _) (Tr.pre (X := iprop((((Fly A c d b ∗ owesW c (recvSum c n) ∗ xbPts A c) ∗ Fam (fun k => cred (tallyAt (sendCell c k) () N)) (SendT c) n) ∗ Fly A c d' b') ∗ R)) ?_
      (tr_last k d b n n' hd hn hn' _ (h.pre ?_))))
  · unfold LoopS
    iintro ⟨⟨H1, H2, H3⟩, HR⟩
    isplitl [H3]; · iexact H3
    isplitr [HR]
    · isplitl [H1] <;> iassumption
    · iexact HR
  · iintro ⟨H1, H2, HR⟩
    isplitr [HR]
    · isplitl [H2] <;> iassumption
    · iexact HR
  · unfold LoopS
    iintro ⟨⟨⟨⟨H1, H2, H3⟩, H4⟩, H5⟩, HR⟩
    isplitr [HR]
    · isplitl [H2 H3 H5]
      · isplitl [H5]; · iexact H5
        isplitl [H2] <;> iassumption
      · isplitl [H4] <;> iassumption
    · iexact HR

/-! ## The whole of the body after the barrier -/

def TailPre (A : Args F) (c : Dev nD) : sProp 𝕄 :=
  iprop(Free A c 0 ∗ Free A c 1 ∗ owesW c (recvSum c 0) ∗ xbPts A c ∗ (∃ f, (oLoc c ↦{fullShare} f))
    ∗ bigSep Finset.univ (SendT (F := F) c) ∗ bigSep Finset.univ (RecvT (F := F) c) ∗ bigSep Finset.univ fun k => atPos ER (sendCell c k) 0 ∅ 0)

def TailPost (A : Args F) (c : Dev nD) : sProp 𝕄 :=
  iprop(Free A c 0 ∗ Free A c 1 ∗ owesW c 0 ∗ xbPts A c ∗ OutS A c 15 ∗ bigSep Finset.univ (RecvD (F := F) c) ∗ bigSep Finset.univ (SwD (F := F) c))

/-- What the loops after the send loop need. -/
def MidS (A : Args F) (c : Dev nD) : sProp 𝕄 :=
  iprop(OutS A c 0 ∗ bigSep Finset.univ (RecvT (F := F) c) ∗ bigSep Finset.univ fun k => atPos ER (sendCell c k) 0 ∅ 0)

def waitsP : P' (F := F) PUnit := do
  sendWaitP 0
  sendWaitP 1
  sendWaitP 2
  sendWaitP 3
  sendWaitP 4
  sendWaitP 5
  sendWaitP 6
  sendWaitP 7
  sendWaitP 8
  sendWaitP 9
  sendWaitP 10
  sendWaitP 11
  sendWaitP 12
  sendWaitP 13
  sendWaitP 14

def recvsP (c : Dev nD) : P' (F := F) PUnit := do
  recvP c 0
  recvP c 1
  recvP c 2
  recvP c 3
  recvP c 4
  recvP c 5
  recvP c 6
  recvP c 7
  recvP c 8
  recvP c 9
  recvP c 10
  recvP c 11
  recvP c 12
  recvP c 13
  recvP c 14
  waitsP

theorem tr_waits (c : Dev nD) (R : sProp 𝕄) :
    Tr A K c iprop((owesW c 0 ∗ bigSep Finset.univ (SwT (F := F) c)) ∗ R) waitsP iprop((owesW c 0 ∗ bigSep Finset.univ (SwD (F := F) c)) ∗ R) := by
  rw [← Fam_zero (SwD c) (SwT c), ← Fam_end (SwD c) (SwT c)]
  unfold waitsP
  refine Tr.seq (((tr_sendWait c 0).fam (D := SwD c) (T := SwT c)).frame R) ?_
  refine Tr.seq (((tr_sendWait c 1).fam (D := SwD c) (T := SwT c)).frame R) ?_
  refine Tr.seq (((tr_sendWait c 2).fam (D := SwD c) (T := SwT c)).frame R) ?_
  refine Tr.seq (((tr_sendWait c 3).fam (D := SwD c) (T := SwT c)).frame R) ?_
  refine Tr.seq (((tr_sendWait c 4).fam (D := SwD c) (T := SwT c)).frame R) ?_
  refine Tr.seq (((tr_sendWait c 5).fam (D := SwD c) (T := SwT c)).frame R) ?_
  refine Tr.seq (((tr_sendWait c 6).fam (D := SwD c) (T := SwT c)).frame R) ?_
  refine Tr.seq (((tr_sendWait c 7).fam (D := SwD c) (T := SwT c)).frame R) ?_
  refine Tr.seq (((tr_sendWait c 8).fam (D := SwD c) (T := SwT c)).frame R) ?_
  refine Tr.seq (((tr_sendWait c 9).fam (D := SwD c) (T := SwT c)).frame R) ?_
  refine Tr.seq (((tr_sendWait c 10).fam (D := SwD c) (T := SwT c)).frame R) ?_
  refine Tr.seq (((tr_sendWait c 11).fam (D := SwD c) (T := SwT c)).frame R) ?_
  refine Tr.seq (((tr_sendWait c 12).fam (D := SwD c) (T := SwT c)).frame R) ?_
  refine Tr.seq (((tr_sendWait c 13).fam (D := SwD c) (T := SwT c)).frame R) ?_
  exact ((tr_sendWait c 14).fam (D := SwD c) (T := SwT c)).frame R

theorem tr_recvs (c : Dev nD) (R Y : sProp 𝕄)
    (h : Tr A K c iprop(((owesW c 0 ∗ OutS A c 15) ∗ bigSep Finset.univ (RecvD (F := F) c)) ∗ R) waitsP Y) :
    Tr A K c iprop(((owesW c 0 ∗ OutS A c 0) ∗ bigSep Finset.univ (RecvT (F := F) c)) ∗ R) (recvsP c) Y := by
  rw [← Fam_end (RecvD c) (RecvT c)] at h
  rw [← Fam_zero (RecvD c) (RecvT c)]
  unfold recvsP
  refine Tr.seq ((Tr.fam (I := iprop(owesW c 0 ∗ OutS A c 0)) (J := iprop(owesW c 0 ∗ OutS A c 1)) (D := RecvD c) (T := RecvT c) (tr_recv c 0)).frame R) ?_
  refine Tr.seq ((Tr.fam (I := iprop(owesW c 0 ∗ OutS A c 1)) (J := iprop(owesW c 0 ∗ OutS A c 2)) (D := RecvD c) (T := RecvT c) (tr_recv c 1)).frame R) ?_
  refine Tr.seq ((Tr.fam (I := iprop(owesW c 0 ∗ OutS A c 2)) (J := iprop(owesW c 0 ∗ OutS A c 3)) (D := RecvD c) (T := RecvT c) (tr_recv c 2)).frame R) ?_
  refine Tr.seq ((Tr.fam (I := iprop(owesW c 0 ∗ OutS A c 3)) (J := iprop(owesW c 0 ∗ OutS A c 4)) (D := RecvD c) (T := RecvT c) (tr_recv c 3)).frame R) ?_
  refine Tr.seq ((Tr.fam (I := iprop(owesW c 0 ∗ OutS A c 4)) (J := iprop(owesW c 0 ∗ OutS A c 5)) (D := RecvD c) (T := RecvT c) (tr_recv c 4)).frame R) ?_
  refine Tr.seq ((Tr.fam (I := iprop(owesW c 0 ∗ OutS A c 5)) (J := iprop(owesW c 0 ∗ OutS A c 6)) (D := RecvD c) (T := RecvT c) (tr_recv c 5)).frame R) ?_
  refine Tr.seq ((Tr.fam (I := iprop(owesW c 0 ∗ OutS A c 6)) (J := iprop(owesW c 0 ∗ OutS A c 7)) (D := RecvD c) (T := RecvT c) (tr_recv c 6)).frame R) ?_
  refine Tr.seq ((Tr.fam (I := iprop(owesW c 0 ∗ OutS A c 7)) (J := iprop(owesW c 0 ∗ OutS A c 8)) (D := RecvD c) (T := RecvT c) (tr_recv c 7)).frame R) ?_
  refine Tr.seq ((Tr.fam (I := iprop(owesW c 0 ∗ OutS A c 8)) (J := iprop(owesW c 0 ∗ OutS A c 9)) (D := RecvD c) (T := RecvT c) (tr_recv c 8)).frame R) ?_
  refine Tr.seq ((Tr.fam (I := iprop(owesW c 0 ∗ OutS A c 9)) (J := iprop(owesW c 0 ∗ OutS A c 10)) (D := RecvD c) (T := RecvT c) (tr_recv c 9)).frame R) ?_
  refine Tr.seq ((Tr.fam (I := iprop(owesW c 0 ∗ OutS A c 10)) (J := iprop(owesW c 0 ∗ OutS A c 11)) (D := RecvD c) (T := RecvT c) (tr_recv c 10)).frame R) ?_
  refine Tr.seq ((Tr.fam (I := iprop(owesW c 0 ∗ OutS A c 11)) (J := iprop(owesW c 0 ∗ OutS A c 12)) (D := RecvD c) (T := RecvT c) (tr_recv c 11)).frame R) ?_
  refine Tr.seq ((Tr.fam (I := iprop(owesW c 0 ∗ OutS A c 12)) (J := iprop(owesW c 0 ∗ OutS A c 13)) (D := RecvD c) (T := RecvT c) (tr_recv c 12)).frame R) ?_
  refine Tr.seq ((Tr.fam (I := iprop(owesW c 0 ∗ OutS A c 13)) (J := iprop(owesW c 0 ∗ OutS A c 14)) (D := RecvD c) (T := RecvT c) (tr_recv c 13)).frame R) ?_
  refine Tr.seq ((Tr.fam (I := iprop(owesW c 0 ∗ OutS A c 14)) (J := iprop(owesW c 0 ∗ OutS A c 15)) (D := RecvD c) (T := RecvT c) (tr_recv c 14)).frame R) ?_
  exact h

theorem tr_end (c : Dev nD) :
    Tr A K c iprop((((Free A c 1 ∗ owesW c (recvSum c 15) ∗ xbPts A c) ∗ Fam (fun k => cred (tallyAt (sendCell c k) () N)) (SendT c) 15) ∗ Free A c 0) ∗ MidS A c)
      (recvsP c) (TailPost A c) := by
  rw [Fam_end, recvSum_end]
  refine Tr.pre ?_ (tr_recvs c (iprop(bigSep Finset.univ (SwT (F := F) c) ∗ xbPts A c ∗ Free A c 0 ∗ Free A c 1)) (TailPost A c)
    (Tr.conseq (tr_waits c iprop(xbPts A c ∗ Free A c 0 ∗ Free A c 1 ∗ OutS A c 15 ∗ bigSep Finset.univ (RecvD (F := F) c))) ?_ ?_))
  · unfold MidS
    iintro ⟨⟨⟨⟨HF1, HO, Hx⟩, Hc⟩, HF0⟩, Ho, HT, Hat⟩
    isplitl [HO Ho HT]
    · isplitr [HT]
      · isplitl [HO] <;> iassumption
      · iexact HT
    isplitl [Hc Hat]
    · unfold SwT
      rw [bigSep_sep']
      isplitl [Hat] <;> iassumption
    isplitl [Hx]; · iexact Hx
    isplitl [HF0] <;> iassumption
  · iintro ⟨⟨⟨HO, Ho⟩, HD⟩, HS, Hx, HF0, HF1⟩
    isplitl [HO HS]
    · isplitl [HO] <;> iassumption
    isplitl [Hx]; · iexact Hx
    isplitl [HF0]; · iexact HF0
    isplitl [HF1]; · iexact HF1
    isplitl [Ho] <;> iassumption
  · unfold TailPost
    iintro ⟨⟨HO, HS⟩, Hx, HF0, HF1, Ho, HD⟩
    isplitl [HF0]; · iexact HF0
    isplitl [HF1]; · iexact HF1
    isplitl [HO]; · iexact HO
    isplitl [Hx]; · iexact Hx
    isplitl [Ho]; · iexact Ho
    isplitl [HD] <;> iassumption

theorem tr_tail (c : Dev nD) : Tr A K c (TailPre A c) (tailP c (scl A c)) (TailPost A c) := by
  unfold tailP
  refine Tr.pre (X := iprop(Free A c 0 ∗ Free A c 1 ∗ owesW c (recvSum c 0) ∗ xbPts A c ∗ (∃ f, (oLoc c ↦{fullShare} f))
    ∗ bigSep Finset.univ (SendT (F := F) c) ∗ bigSep Finset.univ (RecvT (F := F) c) ∗ bigSep Finset.univ fun k => atPos ER (sendCell c k) 0 ∅ 0))
    (Entails.of_eq rfl) (Tr.seq ((tr_copy c 0 0).frame _) ?_)
  refine Tr.pre (X := iprop(Free A c 1 ∗ (Fly A c 0 0 ∗ owesW c (recvSum c 0) ∗ xbPts A c ∗ (∃ f, (oLoc c ↦{fullShare} f))
    ∗ bigSep Finset.univ (SendT (F := F) c) ∗ bigSep Finset.univ (RecvT (F := F) c) ∗ bigSep Finset.univ fun k => atPos ER (sendCell c k) 0 ∅ 0)))
    ?_ (Tr.seq ((tr_copy c 1 1).frame _) ?_)
  · iintro ⟨H0, H1, H⟩
    isplitl [H1]; · iexact H1
    isplitl [H0] <;> iassumption
  refine Tr.pre (X := iprop((Fly A c 0 0 ∗ owesW c (recvSum c 0) ∗ xbPts A c ∗ (∃ f, (oLoc c ↦{fullShare} f)))
    ∗ (Fly A c 1 1 ∗ bigSep Finset.univ (SendT (F := F) c) ∗ bigSep Finset.univ (RecvT (F := F) c) ∗ bigSep Finset.univ fun k => atPos ER (sendCell c k) 0 ∅ 0)))
    ?_ (Tr.seq ((tr_own c (recvSum c 0) (above_recvSum (by decide) c 0)).frame _) ?_)
  · iintro ⟨H1, H0, HO, Hx, Ho, HR⟩
    isplitr [H1 HR]
    · isplitl [H0]; · iexact H0
      isplitl [HO]; · iexact HO
      isplitl [Hx] <;> iassumption
    · isplitl [H1] <;> iassumption
  refine Tr.pre (X := iprop(LoopS A c 1 1 0 0 ∗ MidS A c)) ?_ ?_
  · unfold LoopS MidS
    rw [Fam_zero]
    iintro ⟨⟨H0, HO, Hx, Ho⟩, H1, HS, HR⟩
    isplitr [Ho HR]
    · isplitl [H1 HO Hx]
      · isplitl [H1]; · iexact H1
        isplitl [HO] <;> iassumption
      · isplitl [HS] <;> iassumption
    · isplitl [Ho] <;> iassumption
  refine tr_step 0 1 2 1 0 0 1 rfl rfl rfl ?_
  refine tr_step 1 2 3 0 1 1 2 rfl rfl rfl ?_
  refine tr_step 2 3 4 1 0 2 3 rfl rfl rfl ?_
  refine tr_step 3 4 5 0 1 3 4 rfl rfl rfl ?_
  refine tr_step 4 5 6 1 0 4 5 rfl rfl rfl ?_
  refine tr_step 5 6 7 0 1 5 6 rfl rfl rfl ?_
  refine tr_step 6 7 8 1 0 6 7 rfl rfl rfl ?_
  refine tr_step 7 8 9 0 1 7 8 rfl rfl rfl ?_
  refine tr_step 8 9 10 1 0 8 9 rfl rfl rfl ?_
  refine tr_step 9 10 11 0 1 9 10 rfl rfl rfl ?_
  refine tr_step 10 11 12 1 0 10 11 rfl rfl rfl ?_
  refine tr_step 11 12 13 0 1 11 12 rfl rfl rfl ?_
  refine tr_step 12 13 14 1 0 12 13 rfl rfl rfl ?_
  refine tr_step 13 14 15 0 1 13 14 rfl rfl rfl ?_
  refine Tr.pre (X := iprop((((Fly A c 15 1 ∗ owesW c (recvSum c 14) ∗ xbPts A c) ∗ Fam (fun k => cred (tallyAt (sendCell c k) () N)) (SendT c) 14) ∗ Free A c 0) ∗ MidS A c)) ?_
    (tr_last 14 15 1 14 15 rfl rfl rfl _ (tr_end c))
  unfold LoopS
  iintro ⟨⟨H1, H2, H3⟩, HR⟩
  isplitr [HR]
  · isplitr [H3]
    · isplitl [H1] <;> iassumption
    · iexact H3
  · iexact HR

/-! ## The whole body -/

def SigsP (c : Dev nD) (rest : P' (F := F) PUnit) : P' (F := F) PUnit := do
  sigP 0 c
  sigP 1 c
  sigP 2 c
  sigP 3 c
  sigP 4 c
  sigP 5 c
  sigP 6 c
  sigP 7 c
  sigP 8 c
  sigP 9 c
  sigP 10 c
  sigP 11 c
  sigP 12 c
  sigP 13 c
  sigP 14 c
  rest

theorem tr_sigs (c : Dev nD) (R Y : sProp 𝕄) (rest : P' (F := F) PUnit)
    (h : Tr A K c iprop(owesW c (recvSum c 0) ∗ R) rest Y) :
    Tr A K c iprop((owesW c (O₀ c) ∗ bigSep Finset.univ (SigT (F := F) c)) ∗ R) (SigsP c rest) Y := by
  unfold O₀ SigsP
  rw [← Fam_zero (fun _ => (BI.emp : sProp 𝕄)) (SigT c)]
  refine Tr.seq ((Tr.fam (I := iprop(owesW c (recvSum c 0 + barSum c 0))) (J := iprop(owesW c (recvSum c 0 + barSum c 1))) (D := fun _ => (BI.emp : sProp 𝕄)) (T := SigT c) (tr_sig c 0)).frame R) ?_
  refine Tr.seq ((Tr.fam (I := iprop(owesW c (recvSum c 0 + barSum c 1))) (J := iprop(owesW c (recvSum c 0 + barSum c 2))) (D := fun _ => (BI.emp : sProp 𝕄)) (T := SigT c) (tr_sig c 1)).frame R) ?_
  refine Tr.seq ((Tr.fam (I := iprop(owesW c (recvSum c 0 + barSum c 2))) (J := iprop(owesW c (recvSum c 0 + barSum c 3))) (D := fun _ => (BI.emp : sProp 𝕄)) (T := SigT c) (tr_sig c 2)).frame R) ?_
  refine Tr.seq ((Tr.fam (I := iprop(owesW c (recvSum c 0 + barSum c 3))) (J := iprop(owesW c (recvSum c 0 + barSum c 4))) (D := fun _ => (BI.emp : sProp 𝕄)) (T := SigT c) (tr_sig c 3)).frame R) ?_
  refine Tr.seq ((Tr.fam (I := iprop(owesW c (recvSum c 0 + barSum c 4))) (J := iprop(owesW c (recvSum c 0 + barSum c 5))) (D := fun _ => (BI.emp : sProp 𝕄)) (T := SigT c) (tr_sig c 4)).frame R) ?_
  refine Tr.seq ((Tr.fam (I := iprop(owesW c (recvSum c 0 + barSum c 5))) (J := iprop(owesW c (recvSum c 0 + barSum c 6))) (D := fun _ => (BI.emp : sProp 𝕄)) (T := SigT c) (tr_sig c 5)).frame R) ?_
  refine Tr.seq ((Tr.fam (I := iprop(owesW c (recvSum c 0 + barSum c 6))) (J := iprop(owesW c (recvSum c 0 + barSum c 7))) (D := fun _ => (BI.emp : sProp 𝕄)) (T := SigT c) (tr_sig c 6)).frame R) ?_
  refine Tr.seq ((Tr.fam (I := iprop(owesW c (recvSum c 0 + barSum c 7))) (J := iprop(owesW c (recvSum c 0 + barSum c 8))) (D := fun _ => (BI.emp : sProp 𝕄)) (T := SigT c) (tr_sig c 7)).frame R) ?_
  refine Tr.seq ((Tr.fam (I := iprop(owesW c (recvSum c 0 + barSum c 8))) (J := iprop(owesW c (recvSum c 0 + barSum c 9))) (D := fun _ => (BI.emp : sProp 𝕄)) (T := SigT c) (tr_sig c 8)).frame R) ?_
  refine Tr.seq ((Tr.fam (I := iprop(owesW c (recvSum c 0 + barSum c 9))) (J := iprop(owesW c (recvSum c 0 + barSum c 10))) (D := fun _ => (BI.emp : sProp 𝕄)) (T := SigT c) (tr_sig c 9)).frame R) ?_
  refine Tr.seq ((Tr.fam (I := iprop(owesW c (recvSum c 0 + barSum c 10))) (J := iprop(owesW c (recvSum c 0 + barSum c 11))) (D := fun _ => (BI.emp : sProp 𝕄)) (T := SigT c) (tr_sig c 10)).frame R) ?_
  refine Tr.seq ((Tr.fam (I := iprop(owesW c (recvSum c 0 + barSum c 11))) (J := iprop(owesW c (recvSum c 0 + barSum c 12))) (D := fun _ => (BI.emp : sProp 𝕄)) (T := SigT c) (tr_sig c 11)).frame R) ?_
  refine Tr.seq ((Tr.fam (I := iprop(owesW c (recvSum c 0 + barSum c 12))) (J := iprop(owesW c (recvSum c 0 + barSum c 13))) (D := fun _ => (BI.emp : sProp 𝕄)) (T := SigT c) (tr_sig c 12)).frame R) ?_
  refine Tr.seq ((Tr.fam (I := iprop(owesW c (recvSum c 0 + barSum c 13))) (J := iprop(owesW c (recvSum c 0 + barSum c 14))) (D := fun _ => (BI.emp : sProp 𝕄)) (T := SigT c) (tr_sig c 13)).frame R) ?_
  refine Tr.seq ((Tr.fam (I := iprop(owesW c (recvSum c 0 + barSum c 14))) (J := iprop(owesW c (recvSum c 0 + barSum c 15))) (D := fun _ => (BI.emp : sProp 𝕄)) (T := SigT c) (tr_sig c 14)).frame R) ?_
  refine h.pre ?_
  rw [barSum_end, add_zero]
  iintro ⟨⟨HO, -⟩, HR⟩
  isplitl [HO] <;> iassumption

/-- What the body of device `c` starts from. -/
def BodyPre (A : Args F) (c : Dev nD) : sProp 𝕄 :=
  iprop(owesW c (O₀ c) ∗ bigSep Finset.univ (SigT (F := F) c)
    ∗ cred (tallyAt (barCell c) () 15) ∗ atPos ER (barCell c) 0 ∅ 0 ∗ stgs A c ∗ (∃ f, (xbLoc c ↦{fullShare} f))
    ∗ Free A c 0 ∗ Free A c 1 ∗ (∃ f, (oLoc c ↦{fullShare} f))
    ∗ bigSep Finset.univ (fun k => iprop((∃ f, sPts (F := F) c k f) ∗ dutyTok ER (sendCell c k) 0 0 ∗ dutyTok ER (recvCell (peer c k) k) 0 0))
    ∗ bigSep Finset.univ (RecvT (F := F) c) ∗ bigSep Finset.univ fun k => atPos ER (sendCell c k) 0 ∅ 0)

/-- What it ends with. -/
def BodyPost (A : Args F) (c : Dev nD) : sProp 𝕄 :=
  iprop(semVal (barCell c) 0 ∗ stgs A c ∗ TailPost A c)

theorem sendT_intro (c : Dev nD) :
    iprop((bigSep Finset.univ fun j => barPay (F := F) c j)
        ∗ bigSep Finset.univ (fun k => iprop((∃ f, sPts (F := F) c k f) ∗ dutyTok ER (sendCell c k) 0 0 ∗ dutyTok ER (recvCell (peer c k) k) 0 0)))
      ⊢ bigSep Finset.univ (SendT (F := F) c) := by
  rw [← bigSep_sep']
  refine bigSep_mono fun k _ => ?_
  show iprop(barPay (F := F) c k ∗ (∃ f, sPts (F := F) c k f) ∗ dutyTok ER (sendCell c k) 0 0 ∗ dutyTok ER (recvCell (peer c k) k) 0 0) ⊢ (SendT c k : sProp 𝕄)
  unfold SendT
  iintro ⟨Hb, Hs, Hd⟩
  isplitl [Hs]; · iexact Hs
  isplitl [Hb] <;> iassumption

theorem tr_body (c : Dev nD) : Tr A K c (BodyPre A c) bodyP (BodyPost A c) := by
  intro Kt
  unfold bodyP WP
  simp only [Prog.lift, Prog.bind_op, Prog.bind_ret, wp_deviceId]
  refine BIBase.Entails.trans ?_ (tr_sigs (A := A) (K := K) c iprop(cred (tallyAt (barCell c) () 15) ∗ atPos ER (barCell c) 0 ∅ 0 ∗ stgs A c ∗ (∃ f, (xbLoc c ↦{fullShare} f))
    ∗ Free A c 0 ∗ Free A c 1 ∗ (∃ f, (oLoc c ↦{fullShare} f))
    ∗ bigSep Finset.univ (fun k => iprop((∃ f, sPts (F := F) c k f) ∗ dutyTok ER (sendCell c k) 0 0 ∗ dutyTok ER (recvCell (peer c k) k) 0 0))
    ∗ bigSep Finset.univ (RecvT (F := F) c) ∗ bigSep Finset.univ fun k => atPos ER (sendCell c k) 0 ∅ 0) (BodyPost A c) (headP >>= fun v66 => tailP c v66) ?_ Kt)
  · unfold BodyPre
    iintro ⟨#HP, ⟨HO, HS, HR⟩, Hk⟩
    isplitr; · iexact HP
    isplitr [Hk]
    · isplitl [HO HS]
      · isplitl [HO] <;> iassumption
      · iexact HR
    · iexact Hk
  · intro Kt
    unfold WP
    rw [wp_bind]
    iintro ⟨#HP, ⟨HO, Hc, Hat, Hst, Hxb, HF0, HF1, Ho, HS, HR⟩, Hk⟩
    iapply (wp_head A K c _)
    isplitr; · iexact HP
    isplitl [HO Hc Hat Hst Hxb]
    · isplitl [HO]; · iexact HO
      isplitl [Hc]; · iexact Hc
      isplitl [Hat]; · iexact Hat
      isplitl [Hst] <;> iassumption
    iintro ⟨HO, Hz, Hb, Hst, Hxb⟩
    iapply (tr_tail c Kt)
    isplitr; · iexact HP
    isplitr [Hk Hz Hst]
    · unfold TailPre
      isplitl [HF0]; · iexact HF0
      isplitl [HF1]; · iexact HF1
      isplitl [HO]; · iexact HO
      isplitl [Hxb]; · iexact Hxb
      isplitl [Ho]; · iexact Ho
      isplitr [HR]
      · iapply (sendT_intro (F := F) c)
        isplitl [Hb] <;> iassumption
      · iexact HR
    · iintro HT
      iapply Hk
      unfold BodyPost
      isplitl [Hz]; · iexact Hz
      isplitl [Hst] <;> iassumption

end Cert.KernelIdealProof

end
-- ==== Proof.Point.lean ====
module

public import proofs.«01_k».proof.Proof.Whole
public import Idealize.ShloMosaic.Lib.Ring

@[expose] public section

set_option maxRecDepth 100000

noncomputable section

/-! The one point of the grid: what a device holds at launch, split into what the body takes, and what it holds at the end. -/

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The arguments of every device. -/
def args : Args F where
  x c := (win0_0.blk (0 : Fin 1)).view.read (Elt F) ((s₀ m ρ).mem ((c : Thread nD τ).loc main_arg0))
  w c := m ((c : Thread nD τ).loc main_arg1)
  sx c := (win0_1.blk (0 : Fin 1)).view.read (Elt F) ((s₀ m ρ).mem ((c : Thread nD τ).loc main_arg2))
  sw c := (win0_2.blk (0 : Fin 1)).view.read (Elt F) ((s₀ m ρ).mem ((c : Thread nD τ).loc main_arg3))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## Buffers and their slots -/

theorem rSlot_disj (k k' : Fin 15) (h : k ≠ k') : Disjoint (rSlot k).set (rSlot k').set :=
  Finset.disjoint_left.mpr fun i hi hi' => h (((mem_rSlot k i).mp hi).symm.trans ((mem_rSlot k' i).mp hi'))
theorem rSlot_cover : Finset.univ.biUnion (fun k => (rSlot k).set) = Finset.univ :=
  Finset.eq_univ_iff_forall.mpr fun i => Finset.mem_biUnion.mpr ⟨i 0, Finset.mem_univ _, (mem_rSlot (i 0) i).mpr rfl⟩
theorem rW_disj (b b' : Fin 2) (h : b ≠ b') : Disjoint (rW b).set (rW b').set :=
  Finset.disjoint_left.mpr fun i hi hi' => h (((mem_rW b i).mp hi).symm.trans ((mem_rW b' i).mp hi'))
theorem rW_cover : Finset.univ.biUnion (fun b => (rW b).set) = Finset.univ :=
  Finset.eq_univ_iff_forall.mpr fun i => Finset.mem_biUnion.mpr ⟨i 0, Finset.mem_univ _, (mem_rW (i 0) i).mpr rfl⟩

theorem bigSep_fin2 (Φ : Fin 2 → sProp 𝕄) : bigSep Finset.univ Φ = iprop(Φ 0 ∗ Φ 1) := bigSep_univ_eq_bigSepL [0, 1] (by decide) (by decide) Φ

theorem split_r (c : Dev nD) : iprop(∃ f, (rLoc c ↦{fullShare} f)) ⊢ (bigSep Finset.univ fun k => iprop(∃ f, rPts (F := F) c k f) : sProp 𝕄) := by
  iintro ⟨%f, H⟩
  ihave H := (Entails.of_eq (Ring.pointsTo_blocks (ℓ := rLoc c) (fun k => (rSlot k).set) rSlot_disj rSlot_cover f)) $$ H
  have h : (bigSep Finset.univ fun k => (rLoc c ↦[(rSlot k).set]{fullShare} f : sProp 𝕄)) ⊢ bigSep Finset.univ fun k => iprop(∃ f, rPts (F := F) c k f) :=
    bigSep_mono fun k _ => by
      show (rPts c k f : sProp 𝕄) ⊢ iprop(∃ f, rPts (F := F) c k f)
      iintro H; iexists f; iexact H
  iapply h; iexact H
theorem split_s (c : Dev nD) : iprop(∃ f, (sLoc c ↦{fullShare} f)) ⊢ (bigSep Finset.univ fun k => iprop(∃ f, sPts (F := F) c k f) : sProp 𝕄) := by
  iintro ⟨%f, H⟩
  ihave H := (Entails.of_eq (Ring.pointsTo_blocks (ℓ := sLoc c) (fun k => (rSlot k).set) rSlot_disj rSlot_cover f)) $$ H
  have h : (bigSep Finset.univ fun k => (sLoc c ↦[(rSlot k).set]{fullShare} f : sProp 𝕄)) ⊢ bigSep Finset.univ fun k => iprop(∃ f, sPts (F := F) c k f) :=
    bigSep_mono fun k _ => by
      show (sPts c k f : sProp 𝕄) ⊢ iprop(∃ f, sPts (F := F) c k f)
      iintro H; iexists f; iexact H
  iapply h; iexact H
theorem split_w (c : Dev nD) : iprop(∃ f, (wbLoc c ↦{fullShare} f)) ⊢ (iprop((∃ f, wbPts (F := F) c 0 f) ∗ ∃ f, wbPts (F := F) c 1 f) : sProp 𝕄) := by
  iintro ⟨%f, H⟩
  ihave H := (Entails.of_eq ((Ring.pointsTo_blocks (ℓ := wbLoc c) (fun b => (rW b).set) rW_disj rW_cover f).trans (bigSep_fin2 _))) $$ H
  icases H with ⟨H0, H1⟩
  unfold wbPts
  isplitl [H0]; · iexists f; iexact H0
  iexists f; iexact H1

theorem join_r (A : Args F) (c : Dev nD) : (bigSep Finset.univ fun k => iprop(∃ f, rPts (F := F) c k f) : sProp 𝕄) ⊢ iprop(∃ f, (rLoc c ↦{fullShare} f)) := by
  unfold rPts
  exact Ring.pointsTo_blocks_join_exists (ℓ := rLoc c) (fun k => (rSlot k).set) rSlot_disj rSlot_cover (q := fullShare) (rbuf A c)
theorem join_s (A : Args F) (c : Dev nD) : (bigSep Finset.univ fun k => iprop(∃ f, sPts (F := F) c k f) : sProp 𝕄) ⊢ iprop(∃ f, (sLoc c ↦{fullShare} f)) := by
  unfold sPts
  exact Ring.pointsTo_blocks_join_exists (ℓ := sLoc c) (fun k => (rSlot k).set) rSlot_disj rSlot_cover (q := fullShare) (sbuf A c)
theorem join_w (c : Dev nD) : (iprop((∃ f, wbPts (F := F) c 0 f) ∗ ∃ f, wbPts (F := F) c 1 f) : sProp 𝕄) ⊢ iprop(∃ f, (wbLoc c ↦{fullShare} f)) := by
  unfold wbPts
  iintro ⟨⟨%f, H0⟩, H1⟩
  iapply (Ring.pointsTo_blocks_join_exists (ℓ := wbLoc c) (q := fullShare) (fun b => (rW b).set) rW_disj rW_cover f)
  rw [bigSep_fin2]
  isplitl [H0]
  · iexists f; iexact H0
  · iexact H1

/-! ## What a device holds -/

/-- The tokens of the duties that device `c` performs. -/
def payToks (c : Dev nD) : sProp 𝕄 :=
  iprop((bigSep Finset.univ fun k : Fin 15 => dutyTok ER (barCell (peer c k)) 0 (Fin.rev k))
    ∗ (bigSep Finset.univ fun k : Fin 15 => dutyTok ER (sendCell c k) 0 0)
    ∗ bigSep Finset.univ fun k : Fin 15 => dutyTok ER (recvCell (peer c k) k) 0 0)
/-- Its positions in the rounds of its cells. -/
def poss (c : Dev nD) : sProp 𝕄 :=
  iprop(atPos ER (barCell c) 0 ∅ 0 ∗ (bigSep Finset.univ fun k : Fin 15 => atPos ER (sendCell c k) 0 ∅ 0)
    ∗ bigSep Finset.univ fun k : Fin 15 => atPos ER (recvCell c k) 0 ∅ 0)
/-- The semaphores of its own copies. -/
def copySems (c : Dev nD) : sProp 𝕄 := iprop(semVal (copyCell c 0) 0 ∗ semVal (copyCell c 1) 0)
/-- The credit of its cells. -/
def creds (c : Dev nD) : sProp 𝕄 :=
  iprop(cred (tallyAt (barCell c) () 15) ∗ bigSep Finset.univ fun k : Fin 15 => cred (tallyAt (recvCell c k) () N))

def start (c : Dev nD) : sProp 𝕄 :=
  iprop((∃ K, records (args m ρ) K) ∗ levAts L lv ∗ poss c ∗ payToks c ∗ creds c ∗ copySems c ∗ (wLoc c ↦{fullShare} (args m ρ).w c))
/-- Its scratch buffers. -/
def scratch (c : Dev nD) : sProp 𝕄 :=
  iprop((∃ f, (xbLoc c ↦{fullShare} f)) ∗ (∃ f, (wbLoc c ↦{fullShare} f)) ∗ (∃ f, (sLoc c ↦{fullShare} f)) ∗ (∃ f, (rLoc c ↦{fullShare} f)))
def Φ₀ (c : Dev nD) : sProp 𝕄 := iprop(start m ρ c ∗ scratch (F := F) c)
def Φ₁ (c : Dev nD) : sProp 𝕄 :=
  iprop(semVal (barCell c) 0 ∗ Free (args m ρ) c 0 ∗ Free (args m ρ) c 1 ∗ xbPts (args m ρ) c
    ∗ bigSep Finset.univ (RecvD (F := F) c) ∗ bigSep Finset.univ (SwD (F := F) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m ρ).x c
    | ⟨1, _⟩ => (args m ρ).sx c
    | ⟨2, _⟩ => (args m ρ).sw c
    | ⟨3, _⟩ => outc (args m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem sigT_intro (c : Dev nD) :
    iprop((bigSep Finset.univ fun k : Fin 15 => dutyTok ER (barCell (peer c k)) 0 (Fin.rev k)) ∗ bigSep Finset.univ fun k => iprop(∃ f, rPts (F := F) c k f))
      ⊢ bigSep Finset.univ (SigT (F := F) c) := by
  rw [bigSep_univ_equiv Fin.revPerm (fun k => iprop(∃ f, rPts (F := F) c k f)), ← bigSep_sep']
  exact bigSep_mono fun k _ => by unfold SigT; exact BI.Entails.refl _

theorem body_intro (c : Dev nD) (K : Dev nD × CI → ℕ) :
    iprop(owesW c (O₀ c) ∗ poss c ∗ payToks c ∗ creds c ∗ copySems c ∗ (wLoc c ↦{fullShare} (args m ρ).w c) ∗ scratch (F := F) c
        ∗ stgs (args m ρ) c ∗ (∃ f, (oLoc c ↦{fullShare} f)))
      ⊢ BodyPre (args m ρ) c := by
  unfold poss payToks creds copySems scratch BodyPre Free
  iintro ⟨HO, ⟨HaB, HaS, HaR⟩, ⟨HtB, HtS, HtR⟩, ⟨HcB, HcR⟩, ⟨Hv0, Hv1⟩, HW, ⟨Hxb, Hwb, Hs, Hr⟩, Hst, Ho⟩
  ihave Hr := (split_r c) $$ Hr
  ihave Hs := (split_s c) $$ Hs
  ihave Hwb := (split_w c) $$ Hwb
  icases Hwb with ⟨Hw0, Hw1⟩
  ihave HW := (pointsTo_share (PosShare.mem_left_op_right fullShare)).1 $$ HW
  icases HW with ⟨HW0, HW1⟩
  isplitl [HO]; · iexact HO
  isplitl [HtB Hr]
  · iapply (sigT_intro (F := F) c)
    isplitl [HtB] <;> iassumption
  isplitl [HcB]; · iexact HcB
  isplitl [HaB]; · iexact HaB
  isplitl [Hst]; · iexact Hst
  isplitl [Hxb]; · iexact Hxb
  isplitl [Hw0 Hv0 HW0]
  · isplitl [Hw0]; · iexact Hw0
    isplitl [Hv0]; · iexact Hv0
    iexact HW0
  isplitl [Hw1 Hv1 HW1]
  · isplitl [Hw1]; · iexact Hw1
    isplitl [Hv1]; · iexact Hv1
    iexact HW1
  isplitl [Ho]; · iexact Ho
  isplitl [Hs HtS HtR]
  · have h : iprop((bigSep Finset.univ fun k => iprop(∃ f, sPts (F := F) c k f)) ∗ (bigSep Finset.univ fun k : Fin 15 => dutyTok ER (sendCell c k) 0 0)
        ∗ bigSep Finset.univ fun k : Fin 15 => dutyTok ER (recvCell (peer c k) k) 0 0)
        ⊢ (bigSep Finset.univ (fun k => iprop((∃ f, sPts (F := F) c k f) ∗ dutyTok ER (sendCell c k) 0 0 ∗ dutyTok ER (recvCell (peer c k) k) 0 0)) : sProp 𝕄) := by
      rw [bigSep_sep', bigSep_sep']
    iapply h
    isplitl [Hs]; · iexact Hs
    isplitl [HtS] <;> iassumption
  isplitl [HaR HcR]
  · have h : iprop((bigSep Finset.univ fun k : Fin 15 => atPos ER (recvCell c k) 0 ∅ 0) ∗ (bigSep Finset.univ fun k : Fin 15 => cred (tallyAt (recvCell c k) () N)))
        ⊢ (bigSep Finset.univ (RecvT (F := F) c) : sProp 𝕄) := by
      rw [← bigSep_sep']; exact bigSep_mono fun k _ => by unfold RecvT; exact BI.Entails.refl _
    iapply h
    isplitl [HaR] <;> iassumption
  iexact HaS

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m ρ c ∗ (dats m ρ 0 c).owesAt () t₀.succ ∗ stg c cc0_stg0_0 ((args m ρ).x c) ∗ stg c cc0_stg1_0 ((args m ρ).sx c)
    ∗ stg c cc0_stg2_0 ((args m ρ).sw c) ∗ stg c cc0_stg3_0 (outc (args m ρ) c))

theorem sound_body (c : Dev nD) : bodyPre m ρ c ⊢ WP (F := F) c bodyP (fun _ => bodyPost m ρ c) := by
  unfold bodyPre Φ₀ start
  iintro ⟨⟨⟨⟨%K, #HR⟩, #HL, Hpos, Htok, Hcr, Hcs, HW⟩, Hscr⟩, Ho, ⟨%d0, %g0, %hg0, Hx⟩, ⟨%d1, %g1, %hg1, Hsx⟩, ⟨%d2, %g2, %hg2, Hsw⟩, ⟨%d3, %g3, %hg3, Hout⟩⟩
  have hx : g0 = (args m ρ).x c := by rw [hg0]; unfold Dat.before; rw [if_pos (fetch_0 t₀)]; rfl
  subst hx
  have hx : g1 = (args m ρ).sx c := by rw [hg1]; unfold Dat.before; rw [if_pos (fetch_1 t₀)]; rfl
  subst hx
  have hx : g2 = (args m ρ).sw c := by rw [hg2]; unfold Dat.before; rw [if_pos (fetch_2 t₀)]; rfl
  subst hx
  unfold Dat.owesAt Pipeline.owesWithin
  icases Ho with ⟨%W, %hW, HO⟩
  rw [show (dats m ρ 0 c).owed t₀.castSucc = O₀ c from rfl]
  iapply (tr_body (A := args m ρ) (K := K) c _)
  isplitr
  · unfold pers
    isplitl; · iexact HR
    iexact HL
  isplitl
  · iapply (body_intro m ρ c K)
    isplitl [HO]; · unfold owesW; iexists W; iexact HO
    isplitl [Hpos]; · iexact Hpos
    isplitl [Htok]; · iexact Htok
    isplitl [Hcr]; · iexact Hcr
    isplitl [Hcs]; · iexact Hcs
    isplitl [HW]; · iexact HW
    isplitl [Hscr]; · iexact Hscr
    isplitl [Hx Hsx Hsw]
    · unfold stgs
      isplitl [Hx]; · iexact Hx
      isplitl [Hsx] <;> iassumption
    · iexists _; iexact Hout
  · unfold BodyPost TailPost bodyPost Φ₁ stgs OutS owesW Dat.owesAt Pipeline.owesWithin
    rw [show (dats m ρ 0 c).owed t₀.succ = 0 from rfl]
    iintro ⟨HzB, ⟨Hx, Hsx, Hsw⟩, HF0, HF1, ⟨%W', HO⟩, Hxb, ⟨%fo, %hfo, Hout⟩, HrD, HsD⟩
    isplitl [HzB HF0 HF1 Hxb HrD HsD]
    · isplitl [HzB]; · iexact HzB
      isplitl [HF0]; · iexact HF0
      isplitl [HF1]; · iexact HF1
      isplitl [Hxb]; · iexact Hxb
      isplitl [HrD] <;> iassumption
    isplitl [HO]
    · iexists W'
      isplitr; · ipureintro; exact fun _ _ => Or.inl trivial
      iexact HO
    isplitl [Hx]
    · iexists _; isplitr; · (ipureintro; rfl)
      iexact Hx
    isplitl [Hsx]
    · iexists _; isplitr; · (ipureintro; rfl)
      iexact Hsx
    isplitl [Hsw]
    · iexists _; isplitr; · (ipureintro; rfl)
      iexact Hsw
    iexists fo; isplitr
    · ipureintro; exact funext fun i => hfo i (outDone_all c i)
    iexact Hout

/-- The body at the one point. -/
theorem body_obligation (c : Dev nD) : BodyObligation (dats (F := F) m ρ 0 c) (defs₀ (F := F)) 𝒱₀ () Set.univ := fun t => by
  rw [fin_N t]
  rw [show (fun w : Fin cfg0.W => _) = _ from rfl, bigSep_W0, bigSep_W0]
  simp only [owns_whole_eq]
  show bodyPre m ρ c ⊢ wp frame (wpE (defs₀ (F := F)) 𝒱₀ c none) Set.univ
    (cc0_body xM (Memref.isWhole_whole _) wM (Memref.isWhole_whole _) sxM (Memref.isWhole_whole _) swM (Memref.isWhole_whole _) oM (Memref.isWhole_whole _)
      xbM (Memref.isWhole_whole _) wbM (Memref.isWhole_whole _) sbM (Memref.isWhole_whole _) rbM (Memref.isWhole_whole _) cc0_scratch4 cc0_scratch5 cc0_scratch6) (fun _ => bodyPost m ρ c)
  rw [cc0_body_eq_skeleton, body_eq]
  exact sound_body m ρ c

end Cert.KernelIdealProof

end
-- ==== Proof.Run.lean ====
module

public import Idealize.ShloMosaic.Lib.Pipeline.CollectiveSegs
public import proofs.«01_k».proof.Proof.Point

@[expose] public section

set_option maxRecDepth 100000

noncomputable section

/-! The launch: the cells, tokens and credit dealt to the devices, and the run of the whole program. -/

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: of its own copies, of its sends, of what it receives. -/
abbrev OI : Type := Fin 2 ⊕ (Fin 15 ⊕ Fin 15)
abbrev osem : OI → SemLoc sig
  | .inl b => .dma (copyS b)
  | .inr (.inl k) => .dma (sendS k)
  | .inr (.inr k) => .dma (recvS k)

theorem ownSemFacts : Pipeline.OwnSemFacts cfg0.spec osem := by decide +kernel

theorem share_eq (c : Dev nD) (w : Fin cfg0.W) : (dats m ρ 0 c).share w = fullShare := by unfold Dat.share; split <;> rfl

theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]
def cellSet : Finset (GSem nD τ sig) := Finset.univ.map ⟨kcell, kcell_inj⟩

/-- The duties: of a barrier cell fifteen, of a send or receive cell one. -/
abbrev TI : Type := Fin 15 ⊕ (Fin 15 ⊕ Fin 15)
def tokOf : Dev nD × TI → GSem nD τ sig × ℕ × Fin 15
  | (c, .inl j) => (barCell c, 0, j)
  | (c, .inr (.inl k)) => (sendCell c k, 0, 0)
  | (c, .inr (.inr k)) => (recvCell c k, 0, 0)

theorem tokOf_inj : Function.Injective tokOf := by
  have key : ∀ x : Dev nD × TI, decode (tokOf x).1.2 = match x.2 with | .inl _ => some (.inl ()) | .inr i => some (.inr i) := by
    rintro ⟨c, j | k | k⟩
    · exact decode_bar
    · exact decode_send k
    · exact decode_recv k
  have dev : ∀ x : Dev nD × TI, (tokOf x).1.1.1 = x.1 := by rintro ⟨c, j | k | k⟩ <;> rfl
  rintro ⟨c, i⟩ ⟨c', i'⟩ h
  have hc : c = c' := (dev (c, i)).symm.trans ((congrArg (fun y : GSem nD τ sig × ℕ × Fin 15 => y.1.1.1) h).trans (dev (c', i')))
  have hk := (key (c, i)).symm.trans ((congrArg (fun y : GSem nD τ sig × ℕ × Fin 15 => decode y.1.2) h).trans (key (c', i')))
  subst hc
  rcases i with j | i <;> rcases i' with j' | i'
  · have : j = j' := congrArg (fun y : GSem nD τ sig × ℕ × Fin 15 => y.2.2) h
    rw [this]
  · cases hk
  · cases hk
  · have : i = i' := Sum.inr.inj (Option.some.inj hk)
    rw [this]
def tokSet : Finset (GSem nD τ sig × ℕ × Fin 15) := Finset.univ.map ⟨tokOf, tokOf_inj⟩

def u₀ : UU :=
  (initOf (Pipeline.cells cfgs cellOf_inj) (Pipeline.launchToks cfgs cellOf_inj), (initOf cellSet tokSet, 1))

/-- The tokens of the duties of device `c`'s own cells. -/
def toks (c : Dev nD) : sProp 𝕄 :=
  iprop((bigSep Finset.univ fun j : Fin 15 => dutyTok ER (barCell c) 0 j) ∗ (bigSep Finset.univ fun k : Fin 15 => dutyTok ER (sendCell c k) 0 0)
    ∗ bigSep Finset.univ fun k : Fin 15 => dutyTok ER (recvCell c k) 0 0)

def G (c : Dev nD) : sProp 𝕄 :=
  iprop((bigSep Finset.univ fun i : CI => roundState ER (sched (args m ρ)) (kcell (c, i)) 0)
    ∗ (bigSep Finset.univ fun i : CI => iprop(atPos ER (kcell (c, i)) 0 ∅ 0 ∗ reached ER (kcell (c, i)) 0)) ∗ toks c)

def G' (c : Dev nD) : sProp 𝕄 := iprop((∃ K, records (args m ρ) K) ∗ poss c ∗ payToks c ∗ copySems c)

theorem fund_cells : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun i : CI => Φ (kcell (c, i)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [BI.bigSep_univ_sum, BI.bigSep_univ_sum]; rfl
  iintro HX
  imod (Rounds.fund ER (sched (args m ρ)) cellSet tokSet) $$ HX with ⟨Hst, Hr, Hat, Htok⟩
  imodintro
  ihave Hst' := (Entails.of_eq (hX fun g => roundState ER (sched (args m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(copySems c ∗ (bigSep Finset.univ fun k : Fin 15 => semVal (sendCell c k) 0) ∗ bigSep Finset.univ fun k : Fin 15 => semVal (recvCell c k) 0) := by
  unfold Pipeline.ownSems0 copySems
  rw [BI.bigSep_univ_sum, BI.bigSep_univ_sum, bigSep_fin2]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem bigSep_unit (Φ : Unit → sProp 𝕄) : bigSep Finset.univ Φ = Φ () := by
  rw [show (Finset.univ : Finset Unit) = {()} from rfl, bigSep_singleton]

theorem cell_sems (c : Dev nD) :
    iprop(Pipeline.ownSems0 (Ix := Unit) (Name := ℕ) (U := UU) (Lvl := ℕ) (Val := Elt F) (τ := τ) osem c ∗ unscopedSems0 c)
      ⊢ (iprop(copySems c ∗ bigSep Finset.univ fun i : CI => semVal (kcell (c, i)) 0) : sProp 𝕄) := by
  rw [ownSems0_eq, unscopedSems0_eq, BI.bigSep_univ_sum, BI.bigSep_univ_sum]
  show iprop((copySems c ∗ (bigSep Finset.univ fun k : Fin 15 => semVal (sendCell c k) 0) ∗ bigSep Finset.univ fun k : Fin 15 => semVal (recvCell c k) 0) ∗ semVal (barCell c) 0)
    ⊢ (iprop(copySems c ∗ (bigSep Finset.univ fun _ : Unit => semVal (barCell c) 0) ∗ (bigSep Finset.univ fun k : Fin 15 => semVal (sendCell c k) 0)
        ∗ bigSep Finset.univ fun k : Fin 15 => semVal (recvCell c k) 0) : sProp 𝕄)
  rw [bigSep_unit]
  iintro ⟨⟨HC, HS, HR⟩, HB⟩
  isplitl [HC]; · iexact HC
  isplitl [HB]; · iexact HB
  isplitl [HS] <;> iassumption

/-! ## The cells' invariants, and the tokens dealt -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (sched (args m ρ)) κ (kcell (c, i))))
          ∗ (bigSep Finset.univ fun i => iprop(atPos ER (kcell (c, i)) 0 ∅ 0 ∗ reached ER (kcell (c, i)) 0)) ∗ toks c ∗ copySems c) := by
  unfold G
  iintro ⟨Hos, Hus, Hst, Hat, Htok⟩
  ihave Hv := (cell_sems (F := F) c) $$ [Hos Hus]
  · isplitl [Hos] <;> iassumption
  icases Hv with ⟨HC, Hv⟩
  imod (show iprop((bigSep Finset.univ fun i : CI => semVal (kcell (c, i)) 0) ∗ bigSep Finset.univ fun i : CI => roundState ER (sched (args m ρ)) (kcell (c, i)) 0)
      ⊢ (|={Set.univ}=> bigSep Finset.univ fun i => iprop(∃ κ : ℕ, cellInv ER (sched (args m ρ)) κ (kcell (c, i))) : sProp 𝕄) from by
        rw [← bigSep_sep']
        exact (bigSep_mono fun i _ => (Rounds.body_intro ER (sched (args m ρ)) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Who performs duty `j` of device `c`'s barrier cell, and at which step. -/
def swapBar : Dev nD × Fin 15 ≃ Dev nD × Fin 15 where
  toFun x := (peer x.1 x.2, Fin.rev x.2)
  invFun x := (peer x.1 x.2, Fin.rev x.2)
  left_inv x := Prod.ext (peer_rev x.1 x.2) (Fin.rev_rev x.2)
  right_inv x := Prod.ext (peer_rev x.1 x.2) (Fin.rev_rev x.2)
/-- Where device `c`'s block of step `k` lands. -/
def swapRecv : Dev nD × Fin 15 ≃ Dev nD × Fin 15 where
  toFun x := (peer x.1 x.2, x.2)
  invFun x := (src x.1 x.2, x.2)
  left_inv x := Prod.ext (src_peer x.1 x.2) rfl
  right_inv x := Prod.ext (peer_src x.1 x.2) rfl

theorem toks_deal : (bigSep Finset.univ fun c : Dev nD => (toks c : sProp 𝕄)) ⊢ bigSep Finset.univ fun c : Dev nD => payToks c := by
  unfold toks payToks
  have hB : (bigSep Finset.univ fun c : Dev nD => bigSep Finset.univ fun j : Fin 15 => (dutyTok ER (barCell c) 0 j : sProp 𝕄))
      = bigSep Finset.univ fun c : Dev nD => bigSep Finset.univ fun k : Fin 15 => dutyTok ER (barCell (peer c k)) 0 (Fin.rev k) := by
    rw [← bigSep_univ_prod (fun x : Dev nD × Fin 15 => (dutyTok ER (barCell x.1) 0 x.2 : sProp 𝕄)), bigSep_univ_equiv swapBar,
      ← bigSep_univ_prod (fun x : Dev nD × Fin 15 => (dutyTok ER (barCell (peer x.1 x.2)) 0 (Fin.rev x.2) : sProp 𝕄))]; rfl
  have hR : (bigSep Finset.univ fun c : Dev nD => bigSep Finset.univ fun k : Fin 15 => (dutyTok ER (recvCell c k) 0 0 : sProp 𝕄))
      = bigSep Finset.univ fun c : Dev nD => bigSep Finset.univ fun k : Fin 15 => dutyTok ER (recvCell (peer c k) k) 0 0 := by
    rw [← bigSep_univ_prod (fun x : Dev nD × Fin 15 => (dutyTok ER (recvCell x.1 x.2) 0 0 : sProp 𝕄)), bigSep_univ_equiv swapRecv,
      ← bigSep_univ_prod (fun x : Dev nD × Fin 15 => (dutyTok ER (recvCell (peer x.1 x.2) x.2) 0 0 : sProp 𝕄))]; rfl
  rw [bigSep_sep', bigSep_sep', bigSep_sep', bigSep_sep', hB, hR]

theorem bigSep_give {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (bigSep Finset.univ fun i : CI => (atPos ER (kcell (c, i)) 0 ∅ 0 : sProp 𝕄)) = poss c := by
  unfold poss
  rw [BI.bigSep_univ_sum, BI.bigSep_univ_sum, bigSep_unit]; rfl

theorem ghost_intro (K : Dev nD × CI → ℕ) (c : Dev nD) :
    iprop(records (args m ρ) K ∗ ((bigSep Finset.univ fun i : CI => atPos ER (kcell (c, i)) 0 ∅ 0) ∗ payToks c ∗ copySems c)) ⊢ G' m ρ c := by
  rw [poss_eq]
  unfold G'
  iintro ⟨#HR, H⟩
  isplitr
  · iexists K; iexact HR
  · iexact H

theorem regroup :
    (bigSep Finset.univ fun c : Dev nD => iprop((bigSep Finset.univ fun i => iprop(∃ κ : ℕ, cellInv ER (sched (args m ρ)) κ (kcell (c, i))))
          ∗ (bigSep Finset.univ fun i => iprop(atPos ER (kcell (c, i)) 0 ∅ 0 ∗ reached ER (kcell (c, i)) 0)) ∗ toks c ∗ copySems c) : sProp 𝕄)
      ⊢ bigSep Finset.univ (G' m ρ) := by
  rw [bigSep_sep', bigSep_sep', bigSep_sep', ← bigSep_univ_prod (fun ck : Dev nD × CI => iprop(∃ κ : ℕ, cellInv ER (sched (args m ρ)) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok, HC⟩
  ihave HK := (BI.bigSep_exists_pi Finset.univ (fun (ck : Dev nD × CI) (κ : ℕ) => (cellInv ER (sched (args m ρ)) κ (kcell ck) : sProp 𝕄))) $$ HI
  icases HK with ⟨%K, #HI⟩
  ihave Htk := (toks_deal (F := F)) $$ Htok
  iapply (bigSep_give (R := records (args m ρ) K) fun c _ => ghost_intro m ρ K c)
  isplitr
  · unfold records
    rw [bigSep_sep']
    isplitl; · iexact HI
    iexact HR
  · rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem sum_at (s : Finset (Fin 15)) (f : Fin 15 → CellTallies nD τ sig Unit) (g : GSem nD τ sig) : (∑ k ∈ s, f k) g () = ∑ k ∈ s, f k g () := by
  classical
  induction s using Finset.induction_on with
  | empty => rfl
  | insert a s ha ih => rw [Finset.sum_insert ha, Finset.sum_insert ha, Pi.add_apply, Finsupp.add_apply, ih]

theorem bar_eq_iff {a b : Dev nD} : barCell a = barCell b ↔ a = b :=
  ⟨fun h => congrArg (fun g : GSem nD τ sig => g.1.1) h, fun h => h ▸ rfl⟩
theorem recv_eq_iff {a b : Dev nD} {k k' : Fin 15} : recvCell a k = recvCell b k' ↔ a = b ∧ k = k' := by
  constructor
  · intro h
    have h2 : (Sum.inr (Sum.inr k) : CI) = .inr (.inr k') := csem_inj (congrArg Prod.snd h)
    exact ⟨congrArg (fun g : GSem nD τ sig => g.1.1) h, Sum.inr.inj (Sum.inr.inj h2)⟩
  · rintro ⟨rfl, rfl⟩; rfl
theorem recv_ne_bar (a b : Dev nD) (k : Fin 15) : recvCell a k ≠ barCell b := fun h => by
  have h2 : (Sum.inr (Sum.inr k) : CI) = .inl () := csem_inj (congrArg Prod.snd h)
  cases h2

theorem owed_bar (d c : Dev nD) : O₀ d (barCell c) () = ∑ k : Fin 15, if d = src c k then 1 else 0 := by
  unfold O₀ recvSum barSum
  rw [Pi.add_apply, Finsupp.add_apply, sum_at, sum_at, from_zero,
    Finset.sum_eq_zero fun k _ => by rw [tallyAt_apply, if_neg fun h => recv_ne_bar _ _ _ h.1.symm], Nat.zero_add]
  refine Finset.sum_congr rfl fun k _ => ?_
  rw [tallyAt_apply]
  by_cases h : d = src c k
  · subst h; rw [peer_src, if_pos ⟨rfl, rfl⟩, if_pos rfl]
  · rw [if_neg h, if_neg]
    rintro ⟨h1, -⟩
    exact h (by rw [bar_eq_iff.mp h1, src_peer])
theorem owed_recv (d c : Dev nD) (k : Fin 15) : O₀ d (recvCell c k) () = if d = src c k then N else 0 := by
  unfold O₀ recvSum barSum
  rw [Pi.add_apply, Finsupp.add_apply, sum_at, sum_at, from_zero,
    Finset.sum_eq_zero (f := fun k' => tallyAt (barCell (peer d k')) () 1 (recvCell c k) ()) fun k' _ => by rw [tallyAt_apply, if_neg fun h => recv_ne_bar _ _ _ h.1], Nat.add_zero,
    Finset.sum_eq_single k (fun k' _ hk => by rw [tallyAt_apply, if_neg fun h => hk (recv_eq_iff.mp h.1).2.symm]) (fun h => absurd (Finset.mem_univ _) h), tallyAt_apply]
  by_cases h : d = src c k
  · subst h; rw [peer_src, if_pos ⟨rfl, rfl⟩, if_pos rfl]
  · rw [if_neg h, if_neg]
    rintro ⟨h1, -⟩
    exact h (by rw [(recv_eq_iff.mp h1).1, src_peer])

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (src c k) fun _ => 1).trans (if_pos (Finset.mem_univ _))]
  rfl
theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (src c k) fun _ => N,
    if_pos (Finset.mem_univ _)]

/-- The semaphores whose credit a device starts with. -/
def credSem : Unit ⊕ Fin 15 → SemLoc sig
  | .inl _ => csem (.inl ())
  | .inr k => csem (.inr (.inr k))
theorem credSem_inj : Function.Injective credSem := by
  rintro (a | k) (a' | k') h
  · rfl
  · have := csem_inj (a₁ := .inl ()) (a₂ := .inr (.inr k')) h; cases this
  · have := csem_inj (a₁ := .inr (.inr k)) (a₂ := .inl ()) h; cases this
  · have := Sum.inr.inj (Sum.inr.inj (csem_inj (a₁ := .inr (.inr k)) (a₂ := .inr (.inr k')) h)); rw [this]

theorem creds_intro (c : Dev nD) : (Pipeline.launchCred O₀ c : sProp 𝕄) ⊢ creds c := by
  unfold Pipeline.launchCred creds
  refine (BI.bigSep_subset (t := Finset.univ.map ⟨credSem, credSem_inj⟩) (Finset.subset_univ _)).trans ?_
  rw [bigSep_map, BI.bigSep_univ_sum, bigSep_unit]
  refine BI.Entails.trans (Q := iprop(cred (tallyOn (barCell c) (launchCredit (Pipeline.owing O₀) 0 (barCell c)))
    ∗ bigSep Finset.univ fun k : Fin 15 => cred (tallyOn (recvCell c k) (launchCredit (Pipeline.owing O₀) 0 (recvCell c k))))) (BI.Entails.refl _) ?_
  rw [launch_bar, bigSep_congr fun k _ => congrArg cred (launch_recv c k)]

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨HW, Hlev, Hcr, -, HG⟩
  ihave Hc := (creds_intro (F := F) c) $$ Hcr
  imodintro
  unfold start G'
  icases HG with ⟨HK, Hp, Ht, HC⟩
  isplitl
  · isplitl [HK]; · iexact HK
    isplitl [Hlev]; · iexact Hlev
    isplitl [Hp]; · iexact Hp
    isplitl [Ht]; · iexact Ht
    isplitl [Hc]; · iexact Hc
    isplitl [HC]; · iexact HC
    iexact HW
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- What the launch reads at the end: the barrier's counter and the weights. -/
def fin (c : Dev nD) : sProp 𝕄 := iprop(unscopedSems0 c ∗ (wLoc c ↦{fullShare} m (wLoc c)))

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ fin Free xbPts copySems
  rw [unscopedSems0_eq]
  iintro ⟨HzB, ⟨Hw0, Hv0, HW0⟩, ⟨Hw1, Hv1, HW1⟩, Hxb, HrD, HsD⟩
  ihave HrD := (show bigSep Finset.univ (RecvD (F := F) c) ⊢ (iprop((bigSep Finset.univ fun k : Fin 15 => semVal (recvCell c k) 0)
      ∗ bigSep Finset.univ fun k => iprop(∃ f, rPts (F := F) c k f)) : sProp 𝕄) from by
    rw [← bigSep_sep']; exact bigSep_mono fun k _ => by unfold RecvD; exact BI.Entails.refl _) $$ HrD
  ihave HsD := (show bigSep Finset.univ (SwD (F := F) c) ⊢ (iprop((bigSep Finset.univ fun k : Fin 15 => semVal (sendCell c k) 0)
      ∗ bigSep Finset.univ fun k => iprop(∃ f, sPts (F := F) c k f)) : sProp 𝕄) from by
    rw [← bigSep_sep']; exact bigSep_mono fun k _ => by unfold SwD; exact BI.Entails.refl _) $$ HsD
  icases HrD with ⟨HzR, Hr⟩
  icases HsD with ⟨HzS, Hs⟩
  ihave Hr := (join_r (args m ρ) c) $$ Hr
  ihave Hs := (join_s (args m ρ) c) $$ Hs
  ihave Hw := (join_w (F := F) c) $$ [Hw0 Hw1]
  · isplitl [Hw0] <;> iassumption
  ihave HW := (pointsTo_share (ℓ := wLoc c) (I := Finset.univ) (f := (args m ρ).w c) (PosShare.mem_left_op_right fullShare)).2 $$ [HW0 HW1]
  · isplitl [HW0]; · iexact HW0
    iexact HW1
  isplitl [HzB HW]
  · isplitl [HzB]; · iexact HzB
    iexact HW
  isplitl [Hv0 Hv1 HzS HzR]
  · isplitl [Hv0 Hv1]; · (isplitl [Hv0] <;> iassumption)
    isplitl [HzS] <;> iassumption
  isplitl [Hxb]; · iexists _; iexact Hxb
  isplitl [Hw]; · iexact Hw
  isplitl [Hs] <;> iassumption

theorem lv_stage : ∀ (w : Fin 4) (s : Fin (cfg0.win w).nbuf) (c : Dev nD), lv ((c : Thread nD τ), .dma ((cfg0.win w).sem s)) () = 0 := by
  intro w s c
  unfold lv
  rw [decode_stage]
  · rfl
  · revert s; revert w; decide +kernel

theorem waits (c : Dev nD) : (levAts L lv : sProp 𝕄) ⊢ Pipeline.cellsWaits cfgs (dats m ρ) () 0 c :=
  Pipeline.cellsWaits_intro cfgs (dats m ρ) () 0 c fun w s t =>
    mayWait_of (n := 0) c _ (le_of_eq (lv_stage w s c)) (by
      rcases t with ⟨_ | _, ht⟩
      · exact (above_recvSum (by decide) c 0).add (above_barSum (by decide) c 0)
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ r.2.mem (wLoc c) = m (wLoc c)

theorem own_ER (f : UB) : (BI.own (((Emb.inl : Emb UB (UB × Counters)).trans (embR : Emb (UB × Counters) 𝕄)) f) : sProp 𝕄) ⊢ BI.own (ER f) := by
  unfold ER; exact BI.Entails.refl _

/-- From any memory with zero counters every run ends, each device's result computed, its arguments as they were, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H2 := (own_pair_emb _ _ _) $$ HX
      icases H2 with ⟨HX, -⟩
      ihave HX := (own_ER _) $$ HX
      imod (fund_cells m ρ) $$ HX with HG
      imodintro
      isplitl [HP] <;> iassumption)
    (hglob := glob m ρ)
    (hA := fun _ _ => rfl) (hpf := fun _ k => k.elim0)
    (X := start m ρ) (Y := fun c => fin m c) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem (wLoc c) = m (wLoc c))
    (hY := fun c s' => by
      unfold fin
      iintro ⟨⟨Hu, HW⟩, -, HSI⟩
      icombine HSI HW gives %h0
      imod (Pipeline.unscopedSems0_read (X := unscopedSems0 c) (c := c) fupd_intro s') $$ [Hu HSI] with ⟨%hz, HSI⟩
      · isplitl [Hu] <;> iassumption
      imodintro
      isplitr; · ipureintro; exact ⟨hz, Buf.eq_of_forall_mem_univ h0⟩
      iexact HSI)
    (hQ := fun _ h hs => ⟨fun c => ⟨(h c).1, (h c).2.2.2⟩, sem_eq_zero hs fun c => (h c).2.2.1⟩)

end Cert.KernelIdealProof

end
-- ==== Proof.Final.lean ====
module

public import Idealize.ShloMosaic.Lib.Pipeline.ValueKit.Geometry
public import proofs.«01_k».proof.Proof.Run

@[expose] public section

set_option maxRecDepth 100000

noncomputable section

/-! What the arrays hold after the run: the result at its closed form, the arguments as at launch. -/

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem final_out (c : Dev nD) : finalA m ρ c (3 : Fin 4) = outc (args m ρ) c := by
  unfold finalA
  exact (dats m ρ 0 c).arrAt_eq_of_after_last (3 : Fin 4) t₀ (by decide +kernel) _ (fun j => rfl)

theorem final_x (c : Dev nD) : finalA m ρ c (0 : Fin 4) = m ((c : Thread nD τ).loc main_arg0) := (dats m ρ 0 c).arrAt_in (0 : Fin 4) rfl _
theorem final_sx (c : Dev nD) : finalA m ρ c (1 : Fin 4) = m ((c : Thread nD τ).loc main_arg2) := (dats m ρ 0 c).arrAt_in (1 : Fin 4) rfl _
theorem final_sw (c : Dev nD) : finalA m ρ c (2 : Fin 4) = m ((c : Thread nD τ).loc main_arg3) := (dats m ρ 0 c).arrAt_in (2 : Fin 4) rfl _

/-- What the run leaves in the result and in the arguments. -/
theorem run_values : θ_run defs (onTc (τ := τ) (main (F := F))) ⟨m, fun _ => 0, ρ⟩ (fun r => (∀ c : Dev nD,
    r.2.mem ((c.tc : Thread nD τ).loc main_v1) = outc (args m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
    ⟨((h.1 c).1 (3 : Fin 4)).trans (final_out m ρ c), ((h.1 c).1 (0 : Fin 4)).trans (final_x m ρ c), (h.1 c).2,
      ((h.1 c).1 (1 : Fin 4)).trans (final_sx m ρ c), ((h.1 c).1 (2 : Fin 4)).trans (final_sw m ρ c)⟩, h.2⟩) (run_main m ρ)

/-- The frame: the arguments end as they were, every counter at zero. -/
theorem frame_values : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h.1 c).2, h.2⟩) (run_values m ρ)

/-- The staged blocks are the whole arguments. -/
theorem args_x (c : Dev nD) (i : S256x4096.Idx) : (args m ρ).x c i = m ((c : Thread nD τ).loc main_arg0) i := by
  show m ((c : Thread nD τ).loc main_arg0) ((win0_0.blk (0 : Fin 1)).view.emb i) = _
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega
theorem args_sx (c : Dev nD) (i : S1.Idx) : (args m ρ).sx c i = m ((c : Thread nD τ).loc main_arg2) i := by
  show m ((c : Thread nD τ).loc main_arg2) ((win0_1.blk (0 : Fin 1)).view.emb i) = _
  refine congrArg (m ((c : Thread nD τ).loc main_arg2)) (funext fun a => Fin.ext ?_)
  match a with
  | ⟨0, _⟩ => show 0 + 1 * (i 0).val = (i 0).val; omega
theorem args_sw (c : Dev nD) (i : S1.Idx) : (args m ρ).sw c i = m ((c : Thread nD τ).loc main_arg3) i := by
  show m ((c : Thread nD τ).loc main_arg3) ((win0_2.blk (0 : Fin 1)).view.emb i) = _
  refine congrArg (m ((c : Thread nD τ).loc main_arg3)) (funext fun a => Fin.ext ?_)
  match a with
  | ⟨0, _⟩ => show 0 + 1 * (i 0).val = (i 0).val; omega

end Cert.KernelIdealProof

end
-- ==== Proof.Values.lean ====
module

public import Idealize.ShloMosaic.Lib.Pointwise
public import proofs.«01_k».proof.Proof.Final

@[expose] public section

set_option maxRecDepth 100000

noncomputable section

/-! The blocks that the kernel makes, at the ideal instance, entry by entry. -/

namespace Cert.KernelIdealProof

open Cert.KernelIdeal Cert.KernelIdeal.Gen
open Idealize.ShloMosaic Idealize.ShloMosaic.TcCoe
open Idealize.SL Idealize.SL.Sem

/-- The block that is kept: the product's entry, scaled, negative values replaced by zero. -/
theorem keep_apply (s : EReal) (W : Vec Ideal S1x4096x512 .fp8e4m3) (X : Vec Ideal S256x4096 .fp8e4m3) (r : Fin 256) (j : Fin 512) :
    k0_pay4 (k0_pay3 (F := Ideal) s W (k0_pay2 X)) (ix2 r j) = max ((∑ k : Fin 4096, X (ix2 r k) * W (ix3 0 k j)) * s) 0 := by
  pointwise [k0_pay2, k0_pay3, k0_pay4]

/-- The block that is sent, as the receiver writes it. -/
theorem sent_apply (s : EReal) (W : Vec Ideal S1x4096x512 .fp8e4m3) (X : Vec Ideal S256x4096 .fp8e4m3) (r : Fin 256) (j : Fin 512) :
    k0_pay27 (F := Ideal) (k0_pay7 (F := Ideal) s W (k0_pay2 X)) (ix2 r j) = max ((∑ k : Fin 4096, X (ix2 r k) * W (ix3 0 k j)) * s) 0 := by
  pointwise [k0_pay2, k0_pay7, k0_pay27]

variable (A : Args Ideal)

/-- One entry of the result: row `r` of the row block's device by column `j` of the column block. -/
theorem outc_apply (c : Dev nD) (i : S4096x512.Idx) :
    outc A c i = max ((∑ k : Fin 4096, A.x (rowDev (i 0)) (ix2 (rowIn (i 0)) k) * A.w (rowDev (i 0)) (ix2 k ⟨512 * c.val + (i 1).val, wcol_lt c (i 1)⟩))
      * (A.sx (rowDev (i 0)) (ix1 0) * A.sw (rowDev (i 0)) (ix1 0))) 0 := by
  unfold outc
  split
  · next h =>
    rw [h]
    exact keep_apply (scl A c) (wcol A c c) (A.x c) (rowIn (i 0)) (i 1)
  · exact sent_apply (scl A (rowDev (i 0))) (wcol A (rowDev (i 0)) c) (A.x (rowDev (i 0))) (rowIn (i 0)) (i 1)

end Cert.KernelIdealProof

end
-- ==== Proof.RefValue.lean ====
module

public import Idealize.ShloMosaic.Lib.Pipeline.ValueKit
public import Idealize.ShloMosaic.Lib.Pointwise
public import Idealize.ShloMosaic.Lib.Pipeline.ReadBack
public import proofs.«01_k».proof.Proof.Gen.ReferenceIdeal.Value

@[expose] public section

set_option maxRecDepth 100000

noncomputable section

/-! The reference's result at the ideal instance, entry by entry. -/

namespace Cert.ReferenceIdealProof

open Cert.ReferenceIdeal Cert.ReferenceIdeal.Gen
open Idealize.ShloMosaic Idealize.ShloMosaic.TcCoe
open Idealize.SL Idealize.SL.Sem

variable (m : (ℓ : Loc nD τ sig) → Buf (Elt Ideal) ℓ) (ρ : Dev nD → PrngReg)

/-- The product's entry, scaled, negative values replaced by zero. -/
def refv (x : S4096x4096.Idx → EReal) (w : S4096x8192.Idx → EReal) (sx sw : S1.Idx → EReal) : S4096x8192.Idx → EReal := fun i =>
  max ((∑ k : Fin 4096, x (ix2 (i 0) k) * w (ix2 k (i 1))) * (sx (ix1 0) * sw (ix1 0))) 0

theorem pay_apply (x : Vec Ideal S4096x4096 .fp8e4m3) (w : Vec Ideal S4096x8192 .fp8e4m3) (a b : EReal) (i : S4096x8192.Idx) :
    k0_pay1 (F := Ideal) x w a b i = max ((∑ k : Fin 4096, x (ix2 (i 0) k) * w (ix2 k (i 1))) * (a * b)) 0 := by
  idx_vars i
  pointwise [k0_pay1]

variable (c : Dev nD)

theorem blk_x (t : Fin cfg0.N) (i : S4096x4096.Idx) : iblk m c 0 t i = m ((c : Thread nD τ).loc main_arg0) i := by
  rw [fin_N0 t]
  show m ((c : Thread nD τ).loc main_arg0) ((win0_0.blk (0 : Fin 1)).view.emb i) = _
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega
theorem blk_w (t : Fin cfg0.N) (i : S4096x8192.Idx) : iblk m c 1 t i = m ((c : Thread nD τ).loc main_arg1) i := by
  rw [fin_N0 t]
  show m ((c : Thread nD τ).loc main_arg1) ((win0_1.blk (0 : Fin 1)).view.emb i) = _
  refine congrArg (m ((c : Thread nD τ).loc main_arg1)) (funext fun a => Fin.ext ?_)
  match a with
  | ⟨0, _⟩ => show 0 + 1 * (i 0).val = (i 0).val; omega
  | ⟨1, _⟩ => show 0 + 1 * (i 1).val = (i 1).val; omega
theorem blk_sx (t : Fin cfg0.N) (i : S1.Idx) : iblk m c 2 t i = m ((c : Thread nD τ).loc main_arg2) i := by
  rw [fin_N0 t]
  show m ((c : Thread nD τ).loc main_arg2) ((win0_2.blk (0 : Fin 1)).view.emb i) = _
  refine congrArg (m ((c : Thread nD τ).loc main_arg2)) (funext fun a => Fin.ext ?_)
  match a with
  | ⟨0, _⟩ => show 0 + 1 * (i 0).val = (i 0).val; omega
theorem blk_sw (t : Fin cfg0.N) (i : S1.Idx) : iblk m c 3 t i = m ((c : Thread nD τ).loc main_arg3) i := by
  rw [fin_N0 t]
  show m ((c : Thread nD τ).loc main_arg3) ((win0_3.blk (0 : Fin 1)).view.emb i) = _
  refine congrArg (m ((c : Thread nD τ).loc main_arg3)) (funext fun a => Fin.ext ?_)
  match a with
  | ⟨0, _⟩ => show 0 + 1 * (i 0).val = (i 0).val; omega

theorem first_eq (h) : Shape.Idx.first (s := S1) h = ix1 0 := funext fun a => match a with | ⟨0, _⟩ => Subsingleton.elim (α := Fin 1) _ _

/-- The reference's result. -/
theorem final_out : (dats m 0 c).arrAt 4 cfg0.N = refv (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, outsAt0]
  frame_out
  rw [pay_apply]
  simp only [read_unread_whole]
  have hy : ((View.whole main_v0).slice (win0_4.rect t)).emb y = y := by
    rw [fin_N0 t]
    refine funext fun a => Fin.ext ?_
    match a with
    | ⟨0, _⟩ => show 0 + 1 * (y 0).val = (y 0).val; omega
    | ⟨1, _⟩ => show 0 + 1 * (y 1).val = (y 1).val; omega
  rw [hy]
  unfold refv
  simp only [blk_x, blk_w, blk_sx, blk_sw, first_eq]

end Cert.ReferenceIdealProof

end
-- ==== Proof.Agree.lean ====
module

public import Idealize.ShloMosaic.Lib.Layout
public import proofs.«01_k».proof.Proof.Values
public import proofs.«01_k».proof.Proof.RefValue

@[expose] public section

set_option maxRecDepth 100000

noncomputable section

/-! Each device's result is its column block of the reference's result. -/

namespace Cert.KernelIdealProof

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result against the reference's value, the arguments being the devices' parts of `x`, `w`, `sx`, `sw`. -/
theorem result_block (x : (⟨2, ![4096, 4096]⟩ : Shape).Idx → EReal) (w : (⟨2, ![4096, 8192]⟩ : Shape).Idx → EReal) (sx sw : (⟨1, ![1]⟩ : Shape).Idx → EReal)
    (hx : ∀ c : Dev nD, m ((c.tc : Thread nD τ).loc main_arg0) = Layout.block ⟨2, ![256, 4096]⟩ ⟨2, ![4096, 4096]⟩ 0 16 c x)
    (hw : ∀ c : Dev nD, m ((c.tc : Thread nD τ).loc main_arg1) = w) (hsx : ∀ c : Dev nD, m ((c.tc : Thread nD τ).loc main_arg2) = sx)
    (hsw : ∀ c : Dev nD, m ((c.tc : Thread nD τ).loc main_arg3) = sw) (c : Dev nD) :
    outc (args m ρ) c = Layout.block ⟨2, ![4096, 512]⟩ ⟨2, ![4096, 8192]⟩ 1 16 c (Cert.ReferenceIdealProof.refv x w sx sw) := by
  funext i
  rw [outc_apply, Layout.block_apply]
  unfold Cert.ReferenceIdealProof.refv
  rw [args_sx, args_sw, hsx, hsw]
  congr 2
  refine Finset.sum_congr rfl fun k _ => ?_
  rw [args_x, hx, Layout.block_apply]
  congr 1
  · congr 1
    funext a
    apply Fin.ext
    match a with
    | ⟨0, _⟩ =>
      show (i 0).val / 256 * 256 + (i 0).val % 256 = (i 0).val
      omega
    | ⟨1, _⟩ => rfl
  · show m (((rowDev (i 0)).tc : Thread nD τ).loc main_arg1) _ = _
    rw [hw]
    congr 1
    funext a
    apply Fin.ext
    match a with
    | ⟨0, _⟩ => rfl
    | ⟨1, _⟩ =>
      show 512 * c.val + (i 1).val = c.val * 512 + (i 1).val
      omega

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.FinalK
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel agrees with the reference: on every device the result is its column block of the reference's. -/
theorem agrees : Cert.algebraic_KernelIdeal_ReferenceIdeal (hKernelIdeal := Cert.KernelIdeal.Gen.facts) (hReferenceIdeal := Cert.ReferenceIdeal.Gen.facts) := by
  intro m g m' g' _ hm
  refine ⟨Cert.ReferenceIdealProof.refv (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3)),
    (θ_run _ _ _).mono (fun r h c => ?_) (Cert.KernelIdealProof.run_values m g),
    (θ_run _ _ _).mono (fun r h => ?_) (Cert.ReferenceIdeal.Value.run_blocks m' g')⟩
  · exact ⟨((h.1 c).1).trans (Cert.KernelIdealProof.result_block m g _ _ _ _ (fun c => (hm c).1) (fun c => (hm c).2.1) (fun c => (hm c).2.2.1)
      (fun c => (hm c).2.2.2) c), (h.1 c).2⟩
  · exact ⟨((h 0).1).trans (Cert.ReferenceIdealProof.final_out m' 0), (h 0).2⟩

theorem claim : Cert.Claim := ⟨Cert.Kernel.Gen.facts, Cert.KernelIdeal.Gen.facts, Cert.ReferenceIdeal.Gen.facts,
  fun m g _ => Cert.KernelProof.frame_values m g, fun m g _ => Cert.KernelIdealProof.frame_values m g,
  fun m g _ => Cert.ReferenceIdeal.Gen.frame m g, trivial, agrees⟩

end Cert.Proof

end
